-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xC61C4000#32 ⊥
  ∧ IdealRules.named_const.Statement Cert.KernelIdeal.κ "exp2_scale" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8192 : Shape := ⟨3, ![8, 2048, 8192]⟩
abbrev S64 : Shape := ⟨1, ![64]⟩
abbrev S8x2048x2048 : Shape := ⟨3, ![8, 2048, 2048]⟩
abbrev S16 : Shape := ⟨1, ![16]⟩
abbrev S16x4 : Shape := ⟨2, ![16, 4]⟩
abbrev S16x1 : Shape := ⟨2, ![16, 1]⟩
abbrev S_ : Shape := ⟨0, ![]⟩
abbrev S16x4x128 : Shape := ⟨3, ![16, 4, 128]⟩
abbrev S16x512 : Shape := ⟨2, ![16, 512]⟩
abbrev S16x1x512 : Shape := ⟨3, ![16, 1, 512]⟩
abbrev S16x1x1 : Shape := ⟨3, ![16, 1, 1]⟩
abbrev S1x1x512 : Shape := ⟨3, ![1, 1, 512]⟩
abbrev S1x2048x512 : Shape := ⟨3, ![1, 2048, 512]⟩
abbrev S1x2048x128 : Shape := ⟨3, ![1, 2048, 128]⟩
abbrev S2048x512 : Shape := ⟨2, ![2048, 512]⟩
abbrev S128x2048 : Shape := ⟨2, ![128, 2048]⟩
abbrev S128x512 : Shape := ⟨2, ![128, 512]⟩
abbrev S128x128 : Shape := ⟨2, ![128, 128]⟩
abbrev S2048x128 : Shape := ⟨2, ![2048, 128]⟩
abbrev S1x512 : Shape := ⟨2, ![1, 512]⟩
abbrev S1x128x128 : Shape := ⟨3, ![1, 128, 128]⟩
abbrev S512x128 : Shape := ⟨2, ![512, 128]⟩
abbrev S8x512 : Shape := ⟨2, ![8, 512]⟩
abbrev S64x512 : Shape := ⟨2, ![64, 512]⟩
abbrev S8x8x512 : Shape := ⟨3, ![8, 8, 512]⟩
abbrev S512 : Shape := ⟨1, ![512]⟩
abbrev S1x256x128 : Shape := ⟨3, ![1, 256, 128]⟩
abbrev S256x128 : Shape := ⟨2, ![256, 128]⟩
abbrev S256x512 : Shape := ⟨2, ![256, 512]⟩
abbrev S128x256 : Shape := ⟨2, ![128, 256]⟩
abbrev S1x384x128 : Shape := ⟨3, ![1, 384, 128]⟩
abbrev S384x128 : Shape := ⟨2, ![384, 128]⟩
abbrev S384x512 : Shape := ⟨2, ![384, 512]⟩
abbrev S128x384 : Shape := ⟨2, ![128, 384]⟩
abbrev S1x512x128 : Shape := ⟨3, ![1, 512, 128]⟩
abbrev S512x512 : Shape := ⟨2, ![512, 512]⟩
abbrev S1x640x128 : Shape := ⟨3, ![1, 640, 128]⟩
abbrev S640x128 : Shape := ⟨2, ![640, 128]⟩
abbrev S640x512 : Shape := ⟨2, ![640, 512]⟩
abbrev S128x640 : Shape := ⟨2, ![128, 640]⟩
abbrev S1x768x128 : Shape := ⟨3, ![1, 768, 128]⟩
abbrev S768x128 : Shape := ⟨2, ![768, 128]⟩
abbrev S768x512 : Shape := ⟨2, ![768, 512]⟩
abbrev S128x768 : Shape := ⟨2, ![128, 768]⟩
abbrev S1x896x128 : Shape := ⟨3, ![1, 896, 128]⟩
abbrev S896x128 : Shape := ⟨2, ![896, 128]⟩
abbrev S896x512 : Shape := ⟨2, ![896, 512]⟩
abbrev S128x896 : Shape := ⟨2, ![128, 896]⟩
abbrev S1x1024x128 : Shape := ⟨3, ![1, 1024, 128]⟩
abbrev S1024x128 : Shape := ⟨2, ![1024, 128]⟩
abbrev S1024x512 : Shape := ⟨2, ![1024, 512]⟩
abbrev S128x1024 : Shape := ⟨2, ![128, 1024]⟩
abbrev S1x1152x128 : Shape := ⟨3, ![1, 1152, 128]⟩
abbrev S1152x128 : Shape := ⟨2, ![1152, 128]⟩
abbrev S1152x512 : Shape := ⟨2, ![1152, 512]⟩
abbrev S128x1152 : Shape := ⟨2, ![128, 1152]⟩
abbrev S1x1280x128 : Shape := ⟨3, ![1, 1280, 128]⟩
abbrev S1280x128 : Shape := ⟨2, ![1280, 128]⟩
abbrev S1280x512 : Shape := ⟨2, ![1280, 512]⟩
abbrev S128x1280 : Shape := ⟨2, ![128, 1280]⟩
abbrev S1x1408x128 : Shape := ⟨3, ![1, 1408, 128]⟩
abbrev S1408x128 : Shape := ⟨2, ![1408, 128]⟩
abbrev S1408x512 : Shape := ⟨2, ![1408, 512]⟩
abbrev S128x1408 : Shape := ⟨2, ![128, 1408]⟩
abbrev S1x1536x128 : Shape := ⟨3, ![1, 1536, 128]⟩
abbrev S1536x128 : Shape := ⟨2, ![1536, 128]⟩
abbrev S1536x512 : Shape := ⟨2, ![1536, 512]⟩
abbrev S128x1536 : Shape := ⟨2, ![128, 1536]⟩
abbrev S1x1664x128 : Shape := ⟨3, ![1, 1664, 128]⟩
abbrev S1664x128 : Shape := ⟨2, ![1664, 128]⟩
abbrev S1664x512 : Shape := ⟨2, ![1664, 512]⟩
abbrev S128x1664 : Shape := ⟨2, ![128, 1664]⟩
abbrev S1x1792x128 : Shape := ⟨3, ![1, 1792, 128]⟩
abbrev S1792x128 : Shape := ⟨2, ![1792, 128]⟩
abbrev S1792x512 : Shape := ⟨2, ![1792, 512]⟩
abbrev S128x1792 : Shape := ⟨2, ![128, 1792]⟩
abbrev S1x1920x128 : Shape := ⟨3, ![1, 1920, 128]⟩
abbrev S1920x128 : Shape := ⟨2, ![1920, 128]⟩
abbrev S1920x512 : Shape := ⟨2, ![1920, 512]⟩
abbrev S128x1920 : Shape := ⟨2, ![128, 1920]⟩

abbrev nBuf : Space → Nat
  | .hbm => 22
  | .vmem => 16
  | .smem => 0
  | _ => 0

abbrev bufTy : (tb : Table) → Fin (tcTables nBuf tb) → BufTy
  | .hbm, ⟨0, _⟩ => ⟨S8x2048x8192, .fp8e4m3⟩
  | .hbm, ⟨1, _⟩ => ⟨S64, .f32⟩
  | .hbm, ⟨2, _⟩ => ⟨S8x2048x2048, .fp8e4m3⟩
  | .hbm, ⟨3, _⟩ => ⟨S16, .f32⟩
  | .hbm, ⟨4, _⟩ => ⟨S8x2048x2048, .fp8e4m3⟩
  | .hbm, ⟨5, _⟩ => ⟨S16, .f32⟩
  | .hbm, ⟨6, _⟩ => ⟨S16x4, .f32⟩
  | .hbm, ⟨7, _⟩ => ⟨S16x1, .f32⟩
  | .hbm, ⟨8, _⟩ => ⟨S16x4, .f32⟩
  | .hbm, ⟨9, _⟩ => ⟨S16x4, .f32⟩
  | .hbm, ⟨10, _⟩ => ⟨S_, .f32⟩
  | .hbm, ⟨11, _⟩ => ⟨S16x4, .f32⟩
  | .hbm, ⟨12, _⟩ => ⟨S16x4, .f32⟩
  | .hbm, ⟨13, _⟩ => ⟨S_, .f32⟩
  | .hbm, ⟨14, _⟩ => ⟨S16x4, .f32⟩
  | .hbm, ⟨15, _⟩ => ⟨S16x4, .f32⟩
  | .hbm, ⟨16, _⟩ => ⟨S16x4x128, .f32⟩
  | .hbm, ⟨17, _⟩ => ⟨S16x512, .f32⟩
  | .hbm, ⟨18, _⟩ => ⟨S16x1x512, .f32⟩
  | .hbm, ⟨19, _⟩ => ⟨S16x1x1, .f32⟩
  | .hbm, ⟨20, _⟩ => ⟨S16x1x512, .f32⟩
  | .hbm, ⟨21, _⟩ => ⟨S8x2048x8192, .bf16⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S1x2048x128, .fp8e4m3⟩
  | .local _ .vmem, ⟨7, _⟩ => ⟨S1x2048x128, .fp8e4m3⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x2048x512, .bf16⟩
  | .local _ .vmem, ⟨11, _⟩ => ⟨S1x2048x512, .bf16⟩
  | .local _ .vmem, ⟨12, _⟩ => ⟨S2048x512, .f32⟩
  | .local _ .vmem, ⟨13, _⟩ => ⟨S2048x512, .fp8e4m3⟩
  | .local _ .vmem, ⟨14, _⟩ => ⟨S128x2048, .fp8e4m3⟩
  | .local _ .vmem, ⟨15, _⟩ => ⟨S128x512, .f32⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exp2_scale" => some ((50 * (Real.log 2)⁻¹ : ℝ) : EReal)
  | "mask" => some ⊥
  | _ => none
-- ==== ReferenceIdeal.lean ====
abbrev S8x2048x8192 : Shape := ⟨3, ![8, 2048, 8192]⟩
abbrev S64 : Shape := ⟨1, ![64]⟩
abbrev S8x2048x2048 : Shape := ⟨3, ![8, 2048, 2048]⟩
abbrev S16 : Shape := ⟨1, ![16]⟩
abbrev S8x2048x16x4x128 : Shape := ⟨5, ![8, 2048, 16, 4, 128]⟩
abbrev S8x2048x16x128 : Shape := ⟨4, ![8, 2048, 16, 128]⟩
abbrev S16x4 : Shape := ⟨2, ![16, 4]⟩
abbrev S16x1 : Shape := ⟨2, ![16, 1]⟩
abbrev S2048x2048 : Shape := ⟨2, ![2048, 2048]⟩
abbrev S8x16x2048x2048x4 : Shape := ⟨5, ![8, 16, 2048, 2048, 4]⟩
abbrev S8x16x4x2048x2048 : Shape := ⟨5, ![8, 16, 4, 2048, 2048]⟩
abbrev S1x16x4x1x1 : Shape := ⟨5, ![1, 16, 4, 1, 1]⟩
abbrev S1x1x1x2048x2048 : Shape := ⟨5, ![1, 1, 1, 2048, 2048]⟩
abbrev S8x16x4x2048 : Shape := ⟨4, ![8, 16, 4, 2048]⟩
abbrev S8x16x4x2048x1 : Shape := ⟨5, ![8, 16, 4, 2048, 1]⟩
abbrev S8x16x128x4x2048 : Shape := ⟨5, ![8, 16, 128, 4, 2048]⟩
abbrev S8x2048x16x4 : Shape := ⟨4, ![8, 2048, 16, 4]⟩
abbrev S8x2048x16x4x1 : Shape := ⟨5, ![8, 2048, 16, 4, 1]⟩
abbrev S16x1x1 : Shape := ⟨3, ![16, 1, 1]⟩
abbrev S1x1x16x1x1 : Shape := ⟨5, ![1, 1, 16, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x8192, .fp8e4m3⟩
  | .hbm, ⟨1, _⟩ => ⟨S64, .f32⟩
  | .hbm, ⟨2, _⟩ => ⟨S8x2048x2048, .fp8e4m3⟩
  | .hbm, ⟨3, _⟩ => ⟨S16, .f32⟩
  | .hbm, ⟨4, _⟩ => ⟨S8x2048x2048, .fp8e4m3⟩
  | .hbm, ⟨5, _⟩ => ⟨S16, .f32⟩
  | .hbm, ⟨6, _⟩ => ⟨S8x2048x8192, .bf16⟩
  | .local _ .vmem, ⟨0, _⟩ => ⟨S8x2048x8192, .fp8e4m3⟩
  | .local _ .vmem, ⟨1, _⟩ => ⟨S64, .f32⟩
  | .local _ .vmem, ⟨2, _⟩ => ⟨S8x2048x2048, .fp8e4m3⟩
  | .local _ .vmem, ⟨3, _⟩ => ⟨S16, .f32⟩
  | .local _ .vmem, ⟨4, _⟩ => ⟨S8x2048x2048, .fp8e4m3⟩
  | .local _ .vmem, ⟨5, _⟩ => ⟨S16, .f32⟩
  | .local _ .vmem, ⟨6, _⟩ => ⟨S8x2048x8192, .bf16⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Model.lean ====
module

public import proofs.«01_k».proof.Proof.Gen.KernelIdeal.Frame.Runs

/-! The kernel's body written once with loops in place of the printed, fully unrolled text: the transposed copy of
the values and the cap table first, then the sixteen query blocks, each of them the score product, the pass over the
score rows that applies the soft cap and keeps the running maximum, the pass that exponentiates and keeps the running
sum, and the four result tiles. Every value is spelled with the very operations the printed text uses, so that the
printed body is this program by unfolding (`Proof.Unroll`). -/

@[expose] public section

set_option maxRecDepth 16384

noncomputable section

namespace Cert.KernelIdeal.Own

open Cert.KernelIdeal Cert.KernelIdeal.Gen Idealize.ShloMosaic Idealize.ShloMosaic.TcCoe Idealize.SL.Sem

variable {F : FTy → Type} [FloatOps F] [Named F]

/-- The memory the body works on: two scale rows, the queries, keys and values of one head group, the result, and the
    scratch buffers for scores, weights, transposed values and the cap table; four of them are whole buffers. -/
structure Refs where
  a2 : Memref sig .tc .vmem S1x1x512 .f32
  a3 : Memref sig .tc .vmem S1x1x512 .f32
  a4 : Memref sig .tc .vmem S1x2048x512 .fp8e4m3
  a5 : Memref sig .tc .vmem S1x2048x128 .fp8e4m3
  a6 : Memref sig .tc .vmem S1x2048x128 .fp8e4m3
  a7 : Memref sig .tc .vmem S1x2048x512 .bf16
  a8 : Memref sig .tc .vmem S2048x512 .f32
  a9 : Memref sig .tc .vmem S2048x512 .fp8e4m3
  a10 : Memref sig .tc .vmem S128x2048 .fp8e4m3
  a11 : Memref sig .tc .vmem S128x512 .f32
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole

/-- Programs of the kernel's body. -/
abbrev Body (F : FTy → Type) : Type 1 := Prog (TpuEff nD τ sig (Elt F) Λ₀ .tc) PUnit

/-! ## The values -/

/-- Transposed values: an identity matrix times the values. -/
def vtV (v6 : Vec F S1x2048x128 .fp8e4m3) : FVec F S128x2048 .fp8e4m3 := k0_pay3 v6

/-- The cap table: two where the key row may be seen, minus infinity elsewhere. -/
def capV : FVec F S128x512 .f32 := k0_pay4 (F := F)

/-- A scale row as a matrix of one row. -/
def rowV (v : Vec F S1x1x512 .f32) : FVec F S1x512 .f32 := shapeCast S1x512 v shapeCasts_S1x1x512_S1x512

/-- The four heads' query rows, one below the other. -/
def qV (q0 q1 q2 q3 : Vec F S1x128x128 .fp8e4m3) : FVec F S512x128 .fp8e4m3 :=
  concatenate S512x128 0 [⟨S128x128, shapeCast S128x128 q0 shapeCasts_S1x128x128_S128x128⟩,
    ⟨S128x128, shapeCast S128x128 q1 shapeCasts_S1x128x128_S128x128⟩,
    ⟨S128x128, shapeCast S128x128 q2 shapeCasts_S1x128x128_S128x128⟩,
    ⟨S128x128, shapeCast S128x128 q3 shapeCasts_S1x128x128_S128x128⟩]
    concatenates_S128x128_S128x128_S128x128_S128x128_S512x128_d0

/-- Dropping the leading axis of one of a block of key rows. -/
theorem castK (n : Nat) : (⟨3, ![1, n, 128]⟩ : Shape).ShapeCasts ⟨2, ![n, 128]⟩ := by
  show Shape.numel _ = Shape.numel _
  simp [Shape.numel, Fin.prod_univ_succ]

/-- A shape recast as itself. -/
theorem castSelf (s : Shape) : s.ShapeCasts s := rfl

/-- The scores of `n` key rows against the block's queries. -/
def scV (n : Nat) (q : FVec F S512x128 .fp8e4m3) (k : Vec F ⟨3, ![1, n, 128]⟩ .fp8e4m3) : FVec F ⟨2, ![n, 512]⟩ .f32 :=
  shapeCast ⟨2, ![n, 512]⟩
    (matmul (DotDims.transposedRhs n 128 512) none (shapeCast ⟨2, ![n, 128]⟩ k (castK n)) q
      (constant ⟨2, ![n, 512]⟩ .f32 0x00000000#32)) (castSelf _)

/-- The soft cap's tangent of a chunk of scores. -/
def tV (c1 : FVec F S1x512 .f32) (t : Vec F S64x512 .f32) : FVec F S64x512 .f32 :=
  tanh (mulf t (broadcastTo S64x512 c1 broadcasts_S1x512_S64x512))

/-- The same on the diagonal, cut by the cap table. -/
def tcV (c1 : FVec F S1x512 .f32) (t cap : Vec F S64x512 .f32) : FVec F S64x512 .f32 := minimumf (tV c1 t) cap

/-- What a chunk store writes. -/
def stV (t : FVec F S64x512 .f32) : FVec F S64x512 .f32 := shapeCast S64x512 t shapeCasts_S64x512_S64x512

/-- The running maximum's start. -/
def m0V : FVec F S8x512 .f32 := broadcast S8x512 (Named.named κ "mask" 0xC61C4000#32 : F .f32)

/-- The running maximum after a chunk. -/
def mxV (m : FVec F S8x512 .f32) (t : FVec F S64x512 .f32) : FVec F S8x512 .f32 :=
  maximumf m (multiReduction .maximumf [0] S8x512 (shapeCast S8x8x512 t shapeCasts_S64x512_S8x8x512) 0xFF800000#32
    reduces_S8x8x512_S8x512 (.inl rfl) rfl)

/-- The exponent's bias: eight minus the scaled maximum. -/
def biasV (m : FVec F S8x512 .f32) : FVec F S1x512 .f32 :=
  subf (broadcast S1x512 (Scalar.ofBits .f32 0x41000000#32 : F .f32))
    (mulf (broadcast S1x512 (Named.named κ "exp2_scale" 0x429044FE#32 : F .f32))
      (shapeCast S1x512 (multiReduction .maximumf [0] S512 m 0xFF800000#32 reduces_S8x512_S512 (.inl rfl) rfl)
        shapeCasts_S512_S1x512))

/-- The weights of a chunk. -/
def pV (bias : FVec F S1x512 .f32) (t : Vec F S64x512 .f32) : FVec F S64x512 .f32 :=
  exp2 (addf (mulf t (broadcast S64x512 (Named.named κ "exp2_scale" 0x429044FE#32 : F .f32)))
    (broadcastTo S64x512 bias broadcasts_S1x512_S64x512))

/-- The running sum's start. -/
def l0V : FVec F S8x512 .f32 := broadcast S8x512 (Scalar.ofBits .f32 0x00000000#32 : F .f32)

/-- The running sum after a chunk. -/
def smV (l : FVec F S8x512 .f32) (p : FVec F S64x512 .f32) : FVec F S8x512 .f32 :=
  addf l (multiReduction .add [0] S8x512 (shapeCast S8x8x512 p shapeCasts_S64x512_S8x8x512) 0x00000000#32
    reduces_S8x8x512_S8x512 (.inl rfl) rfl)

/-- The codes of a chunk's weights. -/
def pcV (p : FVec F S64x512 .f32) : FVec F S64x512 .fp8e4m3 :=
  shapeCast S64x512 (truncf .fp8e4m3
    (minimumf (broadcast S64x512 (Scalar.ofBits .f32 0x43E00000#32 : F .f32))
      (maximumf (broadcast S64x512 (Scalar.ofBits .f32 0xC3E00000#32 : F .f32)) p)) bitsLt_fp8e4m3_f32)
    shapeCasts_S64x512_S64x512

/-- The block's result, still transposed: weights times values, scaled and divided by the sum of the weights. -/
def oV (n : Nat) (vs : FVec F S1x512 .f32) (l : FVec F S8x512 .f32) (vt : Vec F ⟨2, ![128, n]⟩ .fp8e4m3)
    (p : Vec F ⟨2, ![n, 512]⟩ .fp8e4m3) : FVec F S128x512 .f32 :=
  mulf (matmul (DotDims.plain 128 n 512) none vt p (constant S128x512 .f32 0x00000000#32))
    (broadcastTo S128x512
      (divf (mulf vs (broadcast S1x512 (Scalar.ofBits .f32 0x3B800000#32 : F .f32)))
        (mulf (shapeCast S1x512 (multiReduction .add [0] S512 l 0x00000000#32 reduces_S8x512_S512 (.inl rfl) rfl)
          shapeCasts_S512_S1x512) (broadcast S1x512 (Scalar.ofBits .f32 0x3B800000#32 : F .f32))))
      broadcasts_S1x512_S128x512)

/-- One head's tile of the block's result. -/
def outV (off : Nat) (h : S128x512.Slices ![0, off] S128x128) (o : FVec F S128x512 .f32) : FVec F S1x128x128 .bf16 :=
  shapeCast S1x128x128
    (truncf .bf16 (transpose S128x128 [1, 0] (extractStridedSlice S128x128 ![0, off] o h) transposes_S128x128_p1_0_S128x128)
      bitsLt_bf16_f32) shapeCasts_S128x128_S1x128x128

/-! ## Where a load reads and a store writes -/

/-- Chunk `c` of the scores is in range. -/
theorem inbT {c : Nat} (h : c < 32) : ∀ a, (![64 * c, 0] : Fin 2 → Nat) a + S64x512.size a ≤ S2048x512.size a :=
  Fin.forall_fin_two.mpr ⟨show 64 * c + 64 ≤ 2048 by omega, Nat.le_refl 512⟩

/-- Chunk `c`, 64 rows of the scores (or weights). -/
abbrev rT (c : Nat) (h : c < 32) : Rect S2048x512 := Rect.unit (s := S2048x512) ![64 * c, 0] S64x512.size (inbT h)

/-- A chunk of the cap table lies in it. -/
theorem inbCap {d : Nat} (h : d < 2) : ∀ a, (![64 * d, 0] : Fin 2 → Nat) a + S64x512.size a ≤ S128x512.size a :=
  Fin.forall_fin_two.mpr ⟨show 64 * d + 64 ≤ 128 by omega, Nat.le_refl 512⟩

/-- Chunk `d` of the cap table. -/
abbrev rCap (d : Nat) (h : d < 2) : Rect S128x512 := Rect.unit (s := S128x512) ![64 * d, 0] S64x512.size (inbCap h)

/-- The first `n` rows of the scores lie in them. -/
theorem inbKv {n : Nat} (h : n ≤ 2048) : ∀ a, (![0, 0] : Fin 2 → Nat) a + (![n, 512] : Fin 2 → Nat) a ≤ S2048x512.size a :=
  Fin.forall_fin_two.mpr ⟨show 0 + n ≤ 2048 by omega, Nat.le_refl 512⟩

/-- The first `n` rows of the scores (or weights). -/
abbrev rKv (n : Nat) (h : n ≤ 2048) : Rect S2048x512 := Rect.unit (s := S2048x512) ![0, 0] ![n, 512] (inbKv h)

/-- The first `n` columns of the transposed values lie in them. -/
theorem inbVt {n : Nat} (h : n ≤ 2048) : ∀ a, (![0, 0] : Fin 2 → Nat) a + (![128, n] : Fin 2 → Nat) a ≤ S128x2048.size a :=
  Fin.forall_fin_two.mpr ⟨Nat.le_refl 128, show 0 + n ≤ 2048 by omega⟩

/-- The first `n` columns of the transposed values. -/
abbrev rVt (n : Nat) (h : n ≤ 2048) : Rect S128x2048 := Rect.unit (s := S128x2048) ![0, 0] ![128, n] (inbVt h)

/-- The first `n` key rows lie in the key block. -/
theorem inbK {n : Nat} (h : n ≤ 2048) :
    ∀ a, (![0, 0, 0] : Fin 3 → Nat) a + (![1, n, 128] : Fin 3 → Nat) a ≤ S1x2048x128.size a :=
  Fin.forall_fin_succ.mpr ⟨Nat.le_refl 1, Fin.forall_fin_two.mpr ⟨show 0 + n ≤ 2048 by omega, Nat.le_refl 128⟩⟩

/-- The first `n` key rows. -/
abbrev rK (n : Nat) (h : n ≤ 2048) : Rect S1x2048x128 := Rect.unit (s := S1x2048x128) ![0, 0, 0] ![1, n, 128] (inbK h)

/-- A head's tile of a query block lies in the query block. -/
theorem inbQ {i g : Nat} (hi : i < 16) (hg : g < 4) :
    ∀ a, (![0, 128 * i, 128 * g] : Fin 3 → Nat) a + S1x128x128.size a ≤ S1x2048x512.size a :=
  Fin.forall_fin_succ.mpr ⟨Nat.le_refl 1, Fin.forall_fin_two.mpr
    ⟨show 128 * i + 128 ≤ 2048 by omega, show 128 * g + 128 ≤ 512 by omega⟩⟩

/-- Head `g`'s tile of query block `i`. -/
abbrev rQ (i g : Nat) (hi : i < 16) (hg : g < 4) : Rect S1x2048x512 :=
  Rect.unit (s := S1x2048x512) ![0, 128 * i, 128 * g] S1x128x128.size (inbQ hi hg)

/-- A matrix of positive extents has entries. -/
theorem numel2 {m n : Nat} (hm : 0 < m) (hn : 0 < n) : 0 < (⟨2, ![m, n]⟩ : Shape).numel :=
  Shape.numel_pos (Fin.forall_fin_two.mpr ⟨hm, hn⟩)

/-- A three-dimensional array of positive extents has entries. -/
theorem numel3 {m n k : Nat} (hm : 0 < m) (hn : 0 < n) (hk : 0 < k) : 0 < (⟨3, ![m, n, k]⟩ : Shape).numel :=
  Shape.numel_pos (Fin.forall_fin_succ.mpr ⟨hm, Fin.forall_fin_two.mpr ⟨hn, hk⟩⟩)

/-- A chunk of weight codes is whole words. -/
theorem packT (c : Nat) (h : c < 32) : (rT c h).PackedRows (EltTy.packing .fp8e4m3) :=
  have h2 : 2 ≤ S2048x512.rank := by decide
  .inr ⟨h2, rfl, .inl ⟨(show 4 ∣ 64 * c from ⟨16 * c, by omega⟩), (by decide : 4 ∣ 64)⟩⟩

/-- A tile of the result is whole words. -/
theorem packQ (i g : Nat) (hi : i < 16) (hg : g < 4) : (rQ i g hi hg).PackedRows (EltTy.packing .bf16) :=
  have h2 : 2 ≤ S1x2048x512.rank := by decide
  .inr ⟨h2, rfl, .inl ⟨(show 2 ∣ 128 * i from ⟨64 * i, by omega⟩), (by decide : 2 ∣ 128)⟩⟩

/-! ## The program -/

/-- `n` chunks of the first pass from chunk `c`, below the diagonal. -/
def tanhOff (R : Refs) (c1 : FVec F S1x512 .f32) :
    (n c : Nat) → c + n ≤ 32 → FVec F S8x512 .f32 → (FVec F S8x512 .f32 → Body F) → Body F
  | 0, _, _, m, K => K m
  | n + 1, c, h, m, K =>
    .op (.load R.a8 (rT c (by omega)).toLoadRect (View.loadsAt_vmem h_S64x512)) fun t =>
    .op (.load R.a8 (rT c (by omega)).toLoadRect (View.loadsAt_vmem h_S64x512)) fun _ =>
    .op (.store R.a8 (rT c (by omega)) (stV (tV c1 t)) Finset.univ (View.stores_vmem_bits_univ h_S64x512 rfl) (.inl rfl)) fun _ =>
    tanhOff R c1 n (c + 1) (by omega) (mxV m (tV c1 t)) K

/-- One chunk of the first pass on the diagonal: chunk `c` of the scores against chunk `d` of the cap table. -/
def tanhDiag (R : Refs) (c1 : FVec F S1x512 .f32) (c : Nat) (hc : c < 32) (d : Nat) (hd : d < 2)
    (m : FVec F S8x512 .f32) (K : FVec F S8x512 .f32 → Body F) : Body F :=
  .op (.load R.a8 (rT c hc).toLoadRect (View.loadsAt_vmem h_S64x512)) fun t =>
  .op (.load R.a11 (rCap d hd).toLoadRect (View.loadsAt_vmem h_S64x512)) fun cap =>
  .op (.load R.a8 (rT c hc).toLoadRect (View.loadsAt_vmem h_S64x512)) fun _ =>
  .op (.store R.a8 (rT c hc) (stV (tcV c1 t cap)) Finset.univ (View.stores_vmem_bits_univ h_S64x512 rfl) (.inl rfl)) fun _ =>
  K (mxV m (tcV c1 t cap))

/-- `n` chunks of the second pass from chunk `c`. -/
def expLoop (R : Refs) (bias : FVec F S1x512 .f32) :
    (n c : Nat) → c + n ≤ 32 → FVec F S8x512 .f32 → (FVec F S8x512 .f32 → Body F) → Body F
  | 0, _, _, l, K => K l
  | n + 1, c, h, l, K =>
    .op (.load R.a8 (rT c (by omega)).toLoadRect (View.loadsAt_vmem h_S64x512)) fun t =>
    .op (.load R.a9 (rT c (by omega)).toLoadRect (View.loadsAt_vmem h_S64x512)) fun _ =>
    .op (.store R.a9 (rT c (by omega)) (pcV (pV bias t)) Finset.univ
      (View.stores_vmem h_S64x512 (R.h9.storeExact_slice rfl _ (packT c (by omega))) (fun _ => rfl)) (.inl rfl)) fun _ =>
    expLoop R bias n (c + 1) (by omega) (smV l (pV bias t)) K

/-- One head's tile of the result stored. -/
def outStep (R : Refs) (i : Nat) (hi : i < 16) (g : Nat) (hg : g < 4) (off : Nat) (h : S128x512.Slices ![0, off] S128x128)
    (o : FVec F S128x512 .f32) (K : Body F) : Body F :=
  .op (.load R.a7 (rQ i g hi hg).toLoadRect (View.loadsAt_vmem h_S1x128x128)) fun _ =>
  .op (.store R.a7 (rQ i g hi hg) (outV off h o) Finset.univ
    (View.stores_vmem h_S1x128x128 (R.h7.storeExact_slice rfl _ (packQ i g hi hg)) (fun _ => rfl)) (.inl rfl)) fun _ => K

/-- Query block `i`. -/
def block (R : Refs) (c1 vs : FVec F S1x512 .f32) (i : Nat) (hi : i < 16) (K : Body F) : Body F :=
  .op (.load R.a4 (rQ i 0 hi (by decide)).toLoadRect (View.loadsAt_vmem h_S1x128x128)) fun q0 =>
  .op (.load R.a4 (rQ i 1 hi (by decide)).toLoadRect (View.loadsAt_vmem h_S1x128x128)) fun q1 =>
  .op (.load R.a4 (rQ i 2 hi (by decide)).toLoadRect (View.loadsAt_vmem h_S1x128x128)) fun q2 =>
  .op (.load R.a4 (rQ i 3 hi (by decide)).toLoadRect (View.loadsAt_vmem h_S1x128x128)) fun q3 =>
  .op (.load R.a5 (rK (128 * (i + 1)) (by omega)).toLoadRect
    (View.loadsAt_vmem (numel3 (by decide) (by omega) (by decide)))) fun k =>
  .op (.load R.a8 (rKv (128 * (i + 1)) (by omega)).toLoadRect (View.loadsAt_vmem (numel2 (by omega) (by decide)))) fun _ =>
  .op (.store R.a8 (rKv (128 * (i + 1)) (by omega)) (scV (128 * (i + 1)) (qV q0 q1 q2 q3) k) Finset.univ
    (View.stores_vmem_bits_univ (numel2 (by omega) (by decide)) rfl) (.inl rfl)) fun _ =>
  tanhOff R c1 (2 * i) 0 (by omega) m0V fun m =>
  tanhDiag R c1 (2 * i) (by omega) 0 (by decide) m fun m =>
  tanhDiag R c1 (2 * i + 1) (by omega) 1 (by decide) m fun m =>
  expLoop R (biasV m) (2 * i + 2) 0 (by omega) l0V fun l =>
  .op (.load R.a10 (rVt (128 * (i + 1)) (by omega)).toLoadRect (View.loadsAt_vmem (numel2 (by decide) (by omega)))) fun vt =>
  .op (.load R.a9 (rKv (128 * (i + 1)) (by omega)).toLoadRect (View.loadsAt_vmem (numel2 (by omega) (by decide)))) fun p =>
  outStep R i hi 0 (by decide) 0 slices_S128x512_o0_0_S128x128 (oV (128 * (i + 1)) vs l vt p) <|
  outStep R i hi 1 (by decide) 128 slices_S128x512_o0_128_S128x128 (oV (128 * (i + 1)) vs l vt p) <|
  outStep R i hi 2 (by decide) 256 slices_S128x512_o0_256_S128x128 (oV (128 * (i + 1)) vs l vt p) <|
  outStep R i hi 3 (by decide) 384 slices_S128x512_o0_384_S128x128 (oV (128 * (i + 1)) vs l vt p) K

/-- `n` query blocks from block `i`. -/
def blocks (R : Refs) (c1 vs : FVec F S1x512 .f32) : (n i : Nat) → i + n ≤ 16 → Body F
  | 0, _, _ => .ret ⟨⟩
  | n + 1, i, h => block R c1 vs i (by omega) (blocks R c1 vs n (i + 1) (by omega))

/-- What comes before the query blocks: transposed values, cap table, scale rows. -/
def prep (R : Refs) (K : FVec F S1x512 .f32 → FVec F S1x512 .f32 → Body F) : Body F :=
  .op (.load R.a6 (Rect.unit (s := S1x2048x128) ![0, 0, 0] S1x2048x128.size inb_S1x2048x128_S1x2048x128_0_0_0).toLoadRect
    (View.loadsAt_vmem h_S1x2048x128)) fun v6 =>
  .op (.load R.a10 (Rect.unit (s := S128x2048) ![0, 0] S128x2048.size inb_S128x2048_S128x2048_0_0).toLoadRect
    (View.loadsAt_vmem h_S128x2048)) fun _ =>
  .op (.store R.a10 (Rect.unit (s := S128x2048) ![0, 0] S128x2048.size inb_S128x2048_S128x2048_0_0) (vtV v6) Finset.univ
    (View.stores_vmem h_S128x2048 (R.h10.storeExact_slice rfl _ packedfp8e4m3_S128x2048_S128x2048_0_0) (fun _ => rfl))
    (.inl rfl)) fun _ =>
  .op (.load R.a11 (Rect.unit (s := S128x512) ![0, 0] S128x512.size inb_S128x512_S128x512_0_0).toLoadRect
    (View.loadsAt_vmem h_S128x512)) fun _ =>
  .op (.store R.a11 (Rect.unit (s := S128x512) ![0, 0] S128x512.size inb_S128x512_S128x512_0_0) capV Finset.univ
    (View.stores_vmem_bits_univ h_S128x512 rfl) (.inl rfl)) fun _ =>
  .op (.load R.a2 (Rect.unit (s := S1x1x512) ![0, 0, 0] S1x1x512.size inb_S1x1x512_S1x1x512_0_0_0).toLoadRect
    (View.loadsAt_vmem h_S1x1x512)) fun c1 =>
  .op (.load R.a3 (Rect.unit (s := S1x1x512) ![0, 0, 0] S1x1x512.size inb_S1x1x512_S1x1x512_0_0_0).toLoadRect
    (View.loadsAt_vmem h_S1x1x512)) fun vs => K (rowV c1) (rowV vs)

/-- The whole body. -/
def body (R : Refs) : Body F := prep R fun c1 vs => blocks R c1 vs 16 0 (by decide)

end Cert.KernelIdeal.Own
-- ==== Proof.Pt.lean ====
module

public import proofs.«01_k».proof.Proof.Model
public import Idealize.ShloMosaic.Lib.Pointwise
public import Idealize.ShloMosaic.Lib.MatmulPlain
public import Idealize.ShloMosaic.Lib.ValueLayout

/-! The kernel's values read at one index, over the extended reals. -/

@[expose] public section

set_option maxRecDepth 16384

noncomputable section

namespace Cert.KernelIdeal.Own

open Cert.KernelIdeal Cert.KernelIdeal.Gen Idealize.ShloMosaic Idealize.ShloMosaic.TcCoe Idealize.SL.Sem
open scoped BigOperators

/-! ## The constants -/

/-- The word of minus infinity. -/
theorem ofBits_negInf : Ideal.ofBits .f32 0xFF800000#32 = (⊥ : EReal) := by
  simp [Ideal.ofBits, Ideal.ieee, -EReal.coe_mul]

/-- The word of 2. -/
theorem ofBits_two : Ideal.ofBits .f32 0x40000000#32 = ((2 : ℝ) : EReal) := by
  simp [Ideal.ofBits, Ideal.ieee, -EReal.coe_mul]; norm_num

/-- The word of 8. -/
theorem ofBits_eight : Ideal.ofBits .f32 0x41000000#32 = ((8 : ℝ) : EReal) := by
  simp [Ideal.ofBits, Ideal.ieee, -EReal.coe_mul]; norm_num

/-- The word of 448. -/
theorem ofBits_448 : Ideal.ofBits .f32 0x43E00000#32 = ((448 : ℝ) : EReal) := by
  simp [Ideal.ofBits, Ideal.ieee, -EReal.coe_mul]; norm_num

/-- The word of -448. -/
theorem ofBits_neg448 : Ideal.ofBits .f32 0xC3E00000#32 = ((-448 : ℝ) : EReal) := by
  simp [Ideal.ofBits, Ideal.ieee, -EReal.coe_mul]; norm_num

/-- The word of 256. -/
theorem ofBits_256 : Ideal.ofBits .f32 0x43800000#32 = ((256 : ℝ) : EReal) := by
  simp [Ideal.ofBits, Ideal.ieee, -EReal.coe_mul]; norm_num

/-- The word of 1/256. -/
theorem ofBits_inv256 : Ideal.ofBits .f32 0x3B800000#32 = (((256 : ℝ)⁻¹ : ℝ) : EReal) := by
  simp [Ideal.ofBits, Ideal.ieee, -EReal.coe_mul]; norm_num

/-- The named mask is minus infinity. -/
theorem named_mask : (Named.named κ "mask" 0xC61C4000#32 : Ideal .f32) = (⊥ : EReal) := rfl

/-- The exponent's factor. -/
abbrev eScale : EReal := ((50 * (Real.log 2)⁻¹ : ℝ) : EReal)

/-- The named scale is fifty over the logarithm of two. -/
theorem named_scale : (Named.named κ "exp2_scale" 0x429044FE#32 : Ideal .f32) = eScale := rfl

/-! ## The values -/

/-- The row of lanes out of its block. -/
theorem rowV_apply (v : Vec Ideal S1x1x512 .f32) (L : Fin 512) : rowV v (ix2 0 L) = v (ix3 0 0 L) := by
  pointwise [rowV]

/-- The entries of the identity matrix as integers. -/
theorem eye_bit : ∀ a b : Fin 128, BitVec.setWidth 32 (IntOp.cmpi .eq (BitVec.ofNat 32 a.val) (BitVec.ofNat 32 b.val))
    = if a = b then 1#32 else 0#32 := by decide +kernel

/-- The product with the identity matrix is the transposed matrix. -/
theorem vtV_apply (v : Vec Ideal S1x2048x128 .fp8e4m3) (d : Fin 128) (r : Fin 2048) : vtV v (ix2 d r) = v (ix3 0 r d) := by
  pointwise [vtV, k0_pay3]
  rw [Finset.sum_eq_single d]
  · rw [eye_bit, if_pos rfl]
    show ((((1#32 : BitVec 32).toInt : ℤ) : ℝ) : EReal) * _ = _
    rw [show (1#32 : BitVec 32).toInt = 1 from rfl, Int.cast_one, EReal.coe_one, one_mul]
  · intro x _ hx
    rw [eye_bit, if_neg (Ne.symm hx)]
    show ((((0#32 : BitVec 32).toInt : ℤ) : ℝ) : EReal) * _ = _
    rw [show (0#32 : BitVec 32).toInt = 0 from rfl, Int.cast_zero, EReal.coe_zero, zero_mul]
  · intro h; exact absurd (Finset.mem_univ d) h

/-- The remainder by 128 as the program computes it. -/
theorem rem_bits : ∀ L : Fin 512,
    Scalar.select
      (IntOp.andi
        (IntOp.xori
          (IntOp.cmpi .slt (IntOp.remsi .vector (BitVec.ofNat 32 L.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 L.val) (Scalar.select (Scalar.cmpi .eq 128#32 0#32) 1#32 128#32)) 0#32))
      (IntOp.addi (IntOp.remsi .vector (BitVec.ofNat 32 L.val) (Scalar.select (Scalar.cmpi .eq 128#32 0#32) 1#32 128#32))
        (Scalar.select (Scalar.cmpi .eq 128#32 0#32) 1#32 128#32))
      (IntOp.remsi .vector (BitVec.ofNat 32 L.val) (Scalar.select (Scalar.cmpi .eq 128#32 0#32) 1#32 128#32))
    = BitVec.ofNat 32 (L.val % 128) := by decide +kernel

/-- The comparison of two row numbers as words. -/
theorem sle_bit : ∀ a b : Fin 128, IntOp.cmpi .sle (BitVec.ofNat 32 a.val) (BitVec.ofNat 32 b.val)
    = if a.val ≤ b.val then 1#1 else 0#1 := by decide +kernel

/-- The cap table holds 2 where the key row is at or before the query row, and minus infinity elsewhere. -/
theorem capV_apply (a : Fin 128) (L : Fin 512) :
    capV (F := Ideal) (ix2 a L) = if a.val ≤ L.val % 128 then ((2 : ℝ) : EReal) else ⊥ := by
  pointwise [capV, k0_pay4]
  rw [rem_bits L, sle_bit a ⟨L.val % 128, Nat.mod_lt _ (by decide)⟩, ofBits_two, named_mask]
  by_cases h : a.val ≤ L.val % 128
  · rw [if_pos h, if_pos h]; rfl
  · rw [if_neg h, if_neg h]; rfl

/-- Lane `L` of the queries is row `L mod 128` of head `L / 128`. -/
theorem qV_apply (Q : Fin 4 → Vec Ideal S1x128x128 .fp8e4m3) (L : Fin 512) (d : Fin 128) :
    qV (Q 0) (Q 1) (Q 2) (Q 3) (ix2 L d)
      = Q ⟨L.val / 128, by omega⟩ (ix3 0 ⟨L.val % 128, Nat.mod_lt _ (by decide)⟩ d) := by
  pointwise [qV]
  have e : ∀ (g g' : Fin 4) (a a' : Fin 128), g = g' → a.val = a'.val → Q g (ix3 0 a d) = Q g' (ix3 0 a' d) := by
    intro g g' a a' h h'; rw [h, Fin.ext h']
  split_ifs <;> (apply e) <;> first | (apply Fin.ext; simp; omega) | (simp; omega)

/-- The tangent of a scaled score. -/
theorem tV_apply (c1 : FVec Ideal S1x512 .f32) (t : Vec Ideal S64x512 .f32) (r : Fin 64) (L : Fin 512) :
    tV c1 t (ix2 r L) = Ideal.tanh (t (ix2 r L) * c1 (ix2 0 L)) := by
  pointwise [tV]

/-- The tangent of a scaled score on a diagonal chunk, masked by the cap table. -/
theorem tcV_apply (c1 : FVec Ideal S1x512 .f32) (t cap : Vec Ideal S64x512 .f32) (r : Fin 64) (L : Fin 512) :
    tcV c1 t cap (ix2 r L) = min (Ideal.tanh (t (ix2 r L) * c1 (ix2 0 L))) (cap (ix2 r L)) := by
  pointwise [tcV, tV]

/-- The value stored is the value computed. -/
theorem stV_apply (t : FVec Ideal S64x512 .f32) (r : Fin 64) (L : Fin 512) : stV t (ix2 r L) = t (ix2 r L) := by
  pointwise [stV]

/-- The running maximum begins at minus infinity. -/
theorem m0V_apply (b : Fin 8) (L : Fin 512) : m0V (F := Ideal) (ix2 b L) = (⊥ : EReal) := by
  pointwise [m0V]
  rfl

/-- What bounds the running maximum after a chunk bounds it before and bounds the chunk's rows of that sublane. -/
theorem mxV_le (m : FVec Ideal S8x512 .f32) (t : FVec Ideal S64x512 .f32) (b : Fin 8) (L : Fin 512) (z : EReal) :
    mxV m t (ix2 b L) ≤ z ↔ m (ix2 b L) ≤ z ∧ ∀ x : Fin 8, t (ix2 ⟨x.val * 8 + b.val, by omega⟩ L) ≤ z := by
  have h : mxV m t (ix2 b L) = max (m (ix2 b L)) (Finset.fold max (Ideal.ofBits .f32 0xFF800000#32)
      (fun x : Fin 8 => t (ix2 ⟨x.val * 8 + b.val, by omega⟩ L)) Finset.univ) := by
    pointwise [mxV]
  rw [h, max_le_iff, Finset.fold_max_le, ofBits_negInf]
  simp

/-- The largest of the eight sublanes' maxima. -/
def mTop (m : FVec Ideal S8x512 .f32) (L : Fin 512) : EReal := Finset.univ.sup fun b : Fin 8 => m (ix2 b L)

/-- The bias of the exponents is 8 less the scaled maximum. -/
theorem biasV_apply (m : FVec Ideal S8x512 .f32) (L : Fin 512) :
    biasV m (ix2 0 L) = ((8 : ℝ) : EReal) - eScale * mTop m L := by
  have h : biasV m (ix2 0 L) = Ideal.ofBits .f32 0x41000000#32 - Named.named (F := Ideal) κ "exp2_scale" 0x429044FE#32
      * Finset.fold max (Ideal.ofBits .f32 0xFF800000#32) (fun x : Fin 8 => m (ix2 x L)) Finset.univ := by
    pointwise [biasV]
  rw [h, ofBits_eight, ofBits_negInf, named_scale]
  rfl

/-- The weight is a power of two of the scaled tangent and the bias. -/
theorem pV_apply (bias : FVec Ideal S1x512 .f32) (t : Vec Ideal S64x512 .f32) (r : Fin 64) (L : Fin 512) :
    pV bias t (ix2 r L) = Ideal.exp2 (t (ix2 r L) * eScale + bias (ix2 0 L)) := by
  pointwise [pV]
  rfl

/-- The running sum begins at zero. -/
theorem l0V_apply (b : Fin 8) (L : Fin 512) : l0V (F := Ideal) (ix2 b L) = (0 : EReal) := by
  pointwise [l0V]

/-- A chunk adds to each sublane's sum its eight rows of that sublane. -/
theorem smV_apply (l : FVec Ideal S8x512 .f32) (p : FVec Ideal S64x512 .f32) (b : Fin 8) (L : Fin 512) :
    smV l p (ix2 b L) = l (ix2 b L) + ∑ x : Fin 8, p (ix2 ⟨x.val * 8 + b.val, by omega⟩ L) := by
  pointwise [smV]

/-- The weight's code is the weight clipped at 448. -/
theorem pcV_apply (p : FVec Ideal S64x512 .f32) (r : Fin 64) (L : Fin 512) :
    pcV p (ix2 r L) = min ((448 : ℝ) : EReal) (max ((-448 : ℝ) : EReal) (p (ix2 r L))) := by
  rw [← ofBits_448, ← ofBits_neg448]
  pointwise [pcV]

/-- A head's tile of the result is its columns, transposed. -/
theorem outV_apply (off : Nat) (h : S128x512.Slices ![0, off] S128x128) (ho : off + 128 ≤ 512)
    (o : FVec Ideal S128x512 .f32) (x d : Fin 128) :
    outV off h o (ix3 0 x d) = o (ix2 d ⟨off + x.val, by omega⟩) := by
  pointwise [outV]

/-- The result, transposed: the values' sum with the codes, times the values' scale over the weights' sum. -/
theorem oV_apply (n : Nat) (vs : FVec Ideal S1x512 .f32) (l : FVec Ideal S8x512 .f32) (vt : Vec Ideal ⟨2, ![128, n]⟩ .fp8e4m3)
    (p : Vec Ideal ⟨2, ![n, 512]⟩ .fp8e4m3) (d : Fin 128) (L : Fin 512) :
    oV n vs l vt p (ix2 d L) = (∑ k : Fin n, vt (ix2 d k) * p (ix2 k L))
      * Ideal.div (vs (ix2 0 L) * (((256 : ℝ)⁻¹ : ℝ) : EReal)) ((∑ x : Fin 8, l (ix2 x L)) * (((256 : ℝ)⁻¹ : ℝ) : EReal)) := by
  rw [← ofBits_inv256]
  have e : oV n vs l vt p (ix2 d L) = matmul (φ₁ := .fp8e4m3) (φ₂ := .fp8e4m3) (DotDims.plain 128 n 512) none vt p (constant S128x512 .f32 0#32) (ix2 d L)
      * Ideal.div (vs (ix2 0 L) * Ideal.ofBits .f32 0x3B800000#32)
        ((∑ x : Fin 8, l (ix2 x L)) * Ideal.ofBits .f32 0x3B800000#32) := by
    pointwise [oV]
  rw [e, ix2_eq_valueIdx]
  refine congrArg (· * _) ((Ideal.matmul_plain_apply none vt p _ d L).trans ?_)
  simp only [ix2_eq_valueIdx]
  exact (congrArg (· + _) Ideal.ofBits_zero_f32).trans (zero_add _)

/-- The score is the product of the key row and the query row. -/
theorem scV_apply (n : Nat) (q : FVec Ideal S512x128 .fp8e4m3) (k : Vec Ideal ⟨3, ![1, n, 128]⟩ .fp8e4m3)
    (r : Fin n) (L : Fin 512) :
    scV n q k (ix2 r L) = ∑ x : Fin 128, k (ix3 0 r x) * q (ix2 L x) := by
  unfold scV
  rw [shapeCast_id, ix2_eq_valueIdx]
  refine (Ideal.matmul_transposedRhs_apply none _ q _ r L).trans ?_
  refine (congrArg (· + _) Ideal.ofBits_zero_f32).trans ((zero_add _).trans ?_)
  refine Finset.sum_congr rfl fun x _ => congrArg₂ (· * ·) (congrArg k ?_) (congrArg q (ix2_eq_valueIdx L x).symm)
  exact (ValueIdx.reshapeEquiv_ix2_1ab _ r x).trans (ix3_eq_valueIdx 0 r x).symm

end Cert.KernelIdeal.Own
-- ==== Proof.Sem.lean ====
module

public import proofs.«01_k».proof.Proof.Model
public import Idealize.ShloMosaic.Lib.Claim
public import Idealize.ShloMosaic.Lib.WritesUnit

/-! Running the looped body: the contents of the buffers as a record, and one rule per load and per store. `Good p s`
says that the program `p`, begun with the buffers as `s` has them, runs to the end and meets the postcondition. -/

@[expose] public section

set_option maxRecDepth 16384

noncomputable section

namespace Cert.KernelIdeal.Own

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## One load, one store -/

section Rules

variable (c : Dev nD) {s : Shape} {e : EltTy} {m : Memref sig .tc .vmem s e}

/-- A load continues at what the memref holds on the loaded rectangle. -/
theorem load_owns {r : Rect s} {hl : m.view.LoadsAt r.toLoadRect} {k : (r.shape.Idx → Elt F e) → Body F}
    {X : s.Idx → Elt F e} {P : sProp 𝕄} {Q : PUnit → sProp 𝕄}
    (hk : iprop(owns (c : Thread nD τ) m fullShare X ∗ P)
      ⊢ wp frame (wpE (defs₀ (F := F)) Variants.none c none) Set.univ (k (View.ld X r)) Q) :
    iprop(owns (c : Thread nD τ) m fullShare X ∗ P)
      ⊢ wp frame (wpE (defs₀ (F := F)) Variants.none c none) Set.univ (.op (.load m r.toLoadRect hl) k) Q := by
  unfold owns at hk ⊢
  iintro ⟨⟨%f, %hf, H⟩, HP⟩
  iapply (wp_load (defs := defs₀ (F := F)) Variants.none (c : Thread nD τ) none Set.univ (r := r.toLoadRect) (hl := hl) (k := k) (q := fullShare) (f := f)
    (m.view.setOn_subset_set _)) $$ H
  iintro H
  have e1 : m.view.readAt (Elt F) r.toLoadRect f = View.ld X r := by rw [View.readAt_eq_ld, hf]
  rw [e1]
  iapply hk
  isplitl [H]
  · iexists f; isplitr
    · ipureintro; exact hf
    iexact H
  iexact HP

/-- A store continues with the memref's contents replaced on the stored rectangle. -/
theorem store_owns {r : Rect s} {w : r.shape.Idx → Elt F e} {hx : (m.access r).Stores Finset.univ}
    {hm : Finset.univ = Finset.univ ∨ ∀ a, r.stride a = 1} {k : PUnit → Body F}
    {X : s.Idx → Elt F e} {P : sProp 𝕄} {Q : PUnit → sProp 𝕄}
    (hk : iprop(owns (c : Thread nD τ) m fullShare (r.overlay X w) ∗ P)
      ⊢ wp frame (wpE (defs₀ (F := F)) Variants.none c none) Set.univ (k ⟨⟩) Q) :
    iprop(owns (c : Thread nD τ) m fullShare X ∗ P)
      ⊢ wp frame (wpE (defs₀ (F := F)) Variants.none c none) Set.univ (.op (.store m r w Finset.univ hx hm) k) Q := by
  unfold owns at hk ⊢
  iintro ⟨⟨%f, %hf, H⟩, HP⟩
  iapply (wp_store (defs := defs₀ (F := F)) Variants.none (c : Thread nD τ) none Set.univ (m := m) (r := r) (w := w) (Mk := Finset.univ)
    (hx := hx) (hm := hm) (k := k) (f := f) (S := m.view.set) (m.view.set_slice_subset r)) $$ H
  iintro H
  iapply hk
  isplitl [H]
  · iexists _; isplitr
    swap; · iexact H
    ipureintro
    funext y
    by_cases hy : y ∈ r.set
    · obtain ⟨x, rfl⟩ := r.exists_idx_of_mem hy
      change m.view.read _ _ (r.emb x) = r.overlay X w (r.emb x)
      rw [Rect.overlay_emb]
      exact View.read_slice_write_emb r f w (Finset.mem_univ x)
    · rw [Rect.overlay_of_not_mem _ _ _ hy, ← hf]
      exact View.read_slice_write_of_not_mem r f w _ (by rw [Rect.map_emb_univ]; exact hy)
  iexact HP

end Rules

/-- Contents replaced on a unit-stride rectangle, read at an index. -/
theorem overlay_unit {s : Shape} {α : Type} {off size : Fin s.rank → ℕ} (inb : ∀ a, off a + size a ≤ s.size a)
    (X : s.Idx → α) (w : (Rect.unit off size inb).shape.Idx → α) (y : s.Idx) :
    (Rect.unit off size inb).overlay X w y
      = if h : ∀ a, off a ≤ (y a).val ∧ (y a).val < off a + size a then
          w (Rect.unitLocal (s := s) (off := off) (size := size) y h) else X y := by
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * ((Rect.unitLocal (s := s) (off := off) (size := size) y h) a).val = (y a).val
        have := h a
        rw [Rect.unitLocal_val]; omega)
    conv_lhs => rw [← hy]
    rw [Rect.overlay_emb]
  · rw [dif_neg h, Rect.overlay_of_not_mem]
    rw [Rect.mem_set_unit]; exact h

/-! ## The buffers -/

/-- What the input buffers hold. -/
structure Inp (F : FTy → Type) where
  x2 : Vec F S1x1x512 .f32
  x3 : Vec F S1x1x512 .f32
  x4 : Vec F S1x2048x512 .fp8e4m3
  x5 : Vec F S1x2048x128 .fp8e4m3
  x6 : Vec F S1x2048x128 .fp8e4m3

/-- What the buffers the body writes hold: the result, the scores, the weights' codes, the transposed values, the cap
    table. -/
structure St (F : FTy → Type) where
  o : Vec F S1x2048x512 .bf16
  t : Vec F S2048x512 .f32
  p : Vec F S2048x512 .fp8e4m3
  vt : Vec F S128x2048 .fp8e4m3
  cap : Vec F S128x512 .f32

variable (c : Dev nD) (R : Refs) (X : Inp F)

/-- The body's buffers, owned at these contents. -/
def Res (s : St F) : sProp 𝕄 :=
  iprop(owns (c : Thread nD τ) R.a2 fullShare X.x2 ∗ owns (c : Thread nD τ) R.a3 fullShare X.x3
    ∗ owns (c : Thread nD τ) R.a4 fullShare X.x4 ∗ owns (c : Thread nD τ) R.a5 fullShare X.x5
    ∗ owns (c : Thread nD τ) R.a6 fullShare X.x6 ∗ owns (c : Thread nD τ) R.a7 fullShare s.o
    ∗ owns (c : Thread nD τ) R.a8 fullShare s.t ∗ owns (c : Thread nD τ) R.a9 fullShare s.p
    ∗ owns (c : Thread nD τ) R.a10 fullShare s.vt ∗ owns (c : Thread nD τ) R.a11 fullShare s.cap)

/-- The program `p` may be run with the buffers as `s` has them and `W` beside them, and ends at `Q`. -/
def Good (W : sProp 𝕄) (Q : PUnit → sProp 𝕄) (p : Body F) (s : St F) : Prop :=
  iprop(Res c R X s ∗ W) ⊢ wp frame (wpE (defs₀ (F := F)) Variants.none c none) Set.univ p Q

variable {c R X} {s : St F}

/-- The same, buffer by buffer with `W` at the end. -/
abbrev Flat (c : Dev nD) (R : Refs) (X : Inp F) (W : sProp 𝕄) (s : St F) : sProp 𝕄 :=
  iprop(owns (c : Thread nD τ) R.a2 fullShare X.x2 ∗ owns (c : Thread nD τ) R.a3 fullShare X.x3
    ∗ owns (c : Thread nD τ) R.a4 fullShare X.x4 ∗ owns (c : Thread nD τ) R.a5 fullShare X.x5
    ∗ owns (c : Thread nD τ) R.a6 fullShare X.x6 ∗ owns (c : Thread nD τ) R.a7 fullShare s.o
    ∗ owns (c : Thread nD τ) R.a8 fullShare s.t ∗ owns (c : Thread nD τ) R.a9 fullShare s.p
    ∗ owns (c : Thread nD τ) R.a10 fullShare s.vt ∗ owns (c : Thread nD τ) R.a11 fullShare s.cap ∗ W)

/-- The buffers and `W` beside them are the flat list. -/
theorem Res_flat {W : sProp 𝕄} : iprop(Res c R X s ∗ W) = Flat c R X W s := by
  unfold Res Flat
  refine BI.equiv_iff.mp ⟨(?_ : (_ : sProp 𝕄) ⊢ _), (?_ : (_ : sProp 𝕄) ⊢ _)⟩
  · iintro ⟨⟨H2, H3, H4, H5, H6, H7, H8, H9, H10, H11⟩, HW⟩
    iframe
  · iintro ⟨H2, H3, H4, H5, H6, H7, H8, H9, H10, H11, HW⟩
    iframe

/-- What can be drawn to the front of the tail of a list can be drawn to the front of the list. -/
theorem pull {A T B P : sProp 𝕄} (h : T = iprop(B ∗ P)) : iprop(A ∗ T) = iprop(B ∗ A ∗ P) := by
  subst h
  refine BI.equiv_iff.mp ⟨(?_ : (_ : sProp 𝕄) ⊢ _), (?_ : (_ : sProp 𝕄) ⊢ _)⟩ <;>
  · iintro ⟨HA, HB, HP⟩
    iframe

/-- A load of a buffer that the list can be split at continues at the buffer's contents. -/
theorem good_load {W P : sProp 𝕄} {Q : PUnit → sProp 𝕄} {sh : Shape} {e : EltTy} {m : Memref sig .tc .vmem sh e} {x : sh.Idx → Elt F e}
    {r : Rect sh} {hl : m.view.LoadsAt r.toLoadRect} {k : (r.shape.Idx → Elt F e) → Body F}
    (h : Flat c R X W s = iprop(owns (c : Thread nD τ) m fullShare x ∗ P))
    (hk : Good c R X W Q (k (View.ld x r)) s) : Good c R X W Q (.op (.load m r.toLoadRect hl) k) s := by
  unfold Good at hk ⊢
  rw [Res_flat, h] at hk ⊢
  exact load_owns c hk

/-- A store to a buffer that the list can be split at continues with the buffer's contents replaced. -/
theorem good_store {W P : sProp 𝕄} {Q : PUnit → sProp 𝕄} {sh : Shape} {e : EltTy} {m : Memref sig .tc .vmem sh e} {x : sh.Idx → Elt F e}
    {r : Rect sh} {w : r.shape.Idx → Elt F e} {hx : (m.access r).Stores Finset.univ}
    {hm : Finset.univ = Finset.univ ∨ ∀ a, r.stride a = 1} {k : PUnit → Body F} {s' : St F}
    (hk : Good c R X W Q (k ⟨⟩) s')
    (h : Flat c R X W s = iprop(owns (c : Thread nD τ) m fullShare x ∗ P))
    (h' : Flat c R X W s' = iprop(owns (c : Thread nD τ) m fullShare (r.overlay x w) ∗ P)) : Good c R X W Q (.op (.store m r w Finset.univ hx hm) k) s := by
  unfold Good at hk ⊢
  rw [Res_flat] at hk ⊢
  rw [h'] at hk
  rw [h]
  exact store_owns c hk

/-- A load of buffer 2. -/
theorem load2 {W : sProp 𝕄} {Q : PUnit → sProp 𝕄} {r : Rect _} {hl : R.a2.view.LoadsAt r.toLoadRect} {k : (r.shape.Idx → Elt F _) → Body F}
    (hk : Good c R X W Q (k (View.ld X.x2 r)) s) : Good c R X W Q (.op (.load R.a2 r.toLoadRect hl) k) s :=
  good_load rfl hk

/-- A load of buffer 3. -/
theorem load3 {W : sProp 𝕄} {Q : PUnit → sProp 𝕄} {r : Rect _} {hl : R.a3.view.LoadsAt r.toLoadRect} {k : (r.shape.Idx → Elt F _) → Body F}
    (hk : Good c R X W Q (k (View.ld X.x3 r)) s) : Good c R X W Q (.op (.load R.a3 r.toLoadRect hl) k) s :=
  good_load (pull rfl) hk

/-- A load of buffer 4. -/
theorem load4 {W : sProp 𝕄} {Q : PUnit → sProp 𝕄} {r : Rect _} {hl : R.a4.view.LoadsAt r.toLoadRect} {k : (r.shape.Idx → Elt F _) → Body F}
    (hk : Good c R X W Q (k (View.ld X.x4 r)) s) : Good c R X W Q (.op (.load R.a4 r.toLoadRect hl) k) s :=
  good_load (pull (pull rfl)) hk

/-- A load of buffer 5. -/
theorem load5 {W : sProp 𝕄} {Q : PUnit → sProp 𝕄} {r : Rect _} {hl : R.a5.view.LoadsAt r.toLoadRect} {k : (r.shape.Idx → Elt F _) → Body F}
    (hk : Good c R X W Q (k (View.ld X.x5 r)) s) : Good c R X W Q (.op (.load R.a5 r.toLoadRect hl) k) s :=
  good_load (pull (pull (pull rfl))) hk

/-- A load of buffer 6. -/
theorem load6 {W : sProp 𝕄} {Q : PUnit → sProp 𝕄} {r : Rect _} {hl : R.a6.view.LoadsAt r.toLoadRect} {k : (r.shape.Idx → Elt F _) → Body F}
    (hk : Good c R X W Q (k (View.ld X.x6 r)) s) : Good c R X W Q (.op (.load R.a6 r.toLoadRect hl) k) s :=
  good_load (pull (pull (pull (pull rfl)))) hk

/-- A load of buffer 7. -/
theorem load7 {W : sProp 𝕄} {Q : PUnit → sProp 𝕄} {r : Rect _} {hl : R.a7.view.LoadsAt r.toLoadRect} {k : (r.shape.Idx → Elt F _) → Body F}
    (hk : Good c R X W Q (k (View.ld s.o r)) s) : Good c R X W Q (.op (.load R.a7 r.toLoadRect hl) k) s :=
  good_load (pull (pull (pull (pull (pull rfl))))) hk

/-- A store to buffer 7. -/
theorem store7 {W : sProp 𝕄} {Q : PUnit → sProp 𝕄} {r : Rect _} {w : r.shape.Idx → Elt F _} {hx : (R.a7.access r).Stores Finset.univ}
    {hm : Finset.univ = Finset.univ ∨ ∀ a, r.stride a = 1} {k : PUnit → Body F}
    (hk : Good c R X W Q (k ⟨⟩) { s with o := r.overlay s.o w }) :
    Good c R X W Q (.op (.store R.a7 r w Finset.univ hx hm) k) s :=
  good_store hk (pull (pull (pull (pull (pull rfl))))) (pull (pull (pull (pull (pull rfl)))))

/-- A load of buffer 8. -/
theorem load8 {W : sProp 𝕄} {Q : PUnit → sProp 𝕄} {r : Rect _} {hl : R.a8.view.LoadsAt r.toLoadRect} {k : (r.shape.Idx → Elt F _) → Body F}
    (hk : Good c R X W Q (k (View.ld s.t r)) s) : Good c R X W Q (.op (.load R.a8 r.toLoadRect hl) k) s :=
  good_load (pull (pull (pull (pull (pull (pull rfl)))))) hk

/-- A store to buffer 8. -/
theorem store8 {W : sProp 𝕄} {Q : PUnit → sProp 𝕄} {r : Rect _} {w : r.shape.Idx → Elt F _} {hx : (R.a8.access r).Stores Finset.univ}
    {hm : Finset.univ = Finset.univ ∨ ∀ a, r.stride a = 1} {k : PUnit → Body F}
    (hk : Good c R X W Q (k ⟨⟩) { s with t := r.overlay s.t w }) :
    Good c R X W Q (.op (.store R.a8 r w Finset.univ hx hm) k) s :=
  good_store hk (pull (pull (pull (pull (pull (pull rfl)))))) (pull (pull (pull (pull (pull (pull rfl))))))

/-- A load of buffer 9. -/
theorem load9 {W : sProp 𝕄} {Q : PUnit → sProp 𝕄} {r : Rect _} {hl : R.a9.view.LoadsAt r.toLoadRect} {k : (r.shape.Idx → Elt F _) → Body F}
    (hk : Good c R X W Q (k (View.ld s.p r)) s) : Good c R X W Q (.op (.load R.a9 r.toLoadRect hl) k) s :=
  good_load (pull (pull (pull (pull (pull (pull (pull rfl))))))) hk

/-- A store to buffer 9. -/
theorem store9 {W : sProp 𝕄} {Q : PUnit → sProp 𝕄} {r : Rect _} {w : r.shape.Idx → Elt F _} {hx : (R.a9.access r).Stores Finset.univ}
    {hm : Finset.univ = Finset.univ ∨ ∀ a, r.stride a = 1} {k : PUnit → Body F}
    (hk : Good c R X W Q (k ⟨⟩) { s with p := r.overlay s.p w }) :
    Good c R X W Q (.op (.store R.a9 r w Finset.univ hx hm) k) s :=
  good_store hk (pull (pull (pull (pull (pull (pull (pull rfl))))))) (pull (pull (pull (pull (pull (pull (pull rfl)))))))

/-- A load of buffer 10. -/
theorem load10 {W : sProp 𝕄} {Q : PUnit → sProp 𝕄} {r : Rect _} {hl : R.a10.view.LoadsAt r.toLoadRect} {k : (r.shape.Idx → Elt F _) → Body F}
    (hk : Good c R X W Q (k (View.ld s.vt r)) s) : Good c R X W Q (.op (.load R.a10 r.toLoadRect hl) k) s :=
  good_load (pull (pull (pull (pull (pull (pull (pull (pull rfl)))))))) hk

/-- A store to buffer 10. -/
theorem store10 {W : sProp 𝕄} {Q : PUnit → sProp 𝕄} {r : Rect _} {w : r.shape.Idx → Elt F _} {hx : (R.a10.access r).Stores Finset.univ}
    {hm : Finset.univ = Finset.univ ∨ ∀ a, r.stride a = 1} {k : PUnit → Body F}
    (hk : Good c R X W Q (k ⟨⟩) { s with vt := r.overlay s.vt w }) :
    Good c R X W Q (.op (.store R.a10 r w Finset.univ hx hm) k) s :=
  good_store hk (pull (pull (pull (pull (pull (pull (pull (pull rfl)))))))) (pull (pull (pull (pull (pull (pull (pull (pull rfl))))))))

/-- A load of buffer 11. -/
theorem load11 {W : sProp 𝕄} {Q : PUnit → sProp 𝕄} {r : Rect _} {hl : R.a11.view.LoadsAt r.toLoadRect} {k : (r.shape.Idx → Elt F _) → Body F}
    (hk : Good c R X W Q (k (View.ld s.cap r)) s) : Good c R X W Q (.op (.load R.a11 r.toLoadRect hl) k) s :=
  good_load (pull (pull (pull (pull (pull (pull (pull (pull (pull rfl))))))))) hk

/-- A store to buffer 11. -/
theorem store11 {W : sProp 𝕄} {Q : PUnit → sProp 𝕄} {r : Rect _} {w : r.shape.Idx → Elt F _} {hx : (R.a11.access r).Stores Finset.univ}
    {hm : Finset.univ = Finset.univ ∨ ∀ a, r.stride a = 1} {k : PUnit → Body F}
    (hk : Good c R X W Q (k ⟨⟩) { s with cap := r.overlay s.cap w }) :
    Good c R X W Q (.op (.store R.a11 r w Finset.univ hx hm) k) s :=
  good_store hk (pull (pull (pull (pull (pull (pull (pull (pull (pull rfl))))))))) (pull (pull (pull (pull (pull (pull (pull (pull (pull rfl)))))))))

/-- The end of the program. -/
theorem good_ret {W : sProp 𝕄} {Q : PUnit → sProp 𝕄} (hk : iprop(Res c R X s ∗ W) ⊢ Q ⟨⟩) : Good c R X W Q (.ret ⟨⟩) s := by
  unfold Good
  exact hk.trans (le_wp_ret _ _ _ _ _)

end Cert.KernelIdeal.Own
-- ==== Proof.Loops.lean ====
module

public import proofs.«01_k».proof.Proof.Pt
public import proofs.«01_k».proof.Proof.Sem

/-! What the looped body computes over the extended reals: each of its loops by induction on the number of chunks, then
one query block, then all sixteen. -/

@[expose] public section

set_option maxRecDepth 16384

noncomputable section

namespace Cert.KernelIdeal.Own

open Cert.KernelIdeal Cert.KernelIdeal.Gen Idealize.ShloMosaic Idealize.ShloMosaic.TcCoe
open Idealize.SL Idealize.SL.RA Idealize.SL.BI Idealize.SL.Sem
open scoped BigOperators

local notation "𝕄" => MT nD τ sig Unit (Elt Ideal) ℕ (UR sig nD τ) ℕ

/-! ## Rectangles read at an index -/

/-- Contents replaced on a rectangle of a matrix. -/
theorem ov2 {m n o0 o1 a b : ℕ} {α : Type} (inb : ∀ i, (![o0, o1] : Fin 2 → ℕ) i + (![a, b] : Fin 2 → ℕ) i ≤ (⟨2, ![m, n]⟩ : Shape).size i)
    (X : (⟨2, ![m, n]⟩ : Shape).Idx → α) (w : (⟨2, ![a, b]⟩ : Shape).Idx → α) (r : Fin m) (L : Fin n) :
    (Rect.unit (s := ⟨2, ![m, n]⟩) ![o0, o1] ![a, b] inb).overlay X w (ix2 r L)
      = if h : (o0 ≤ r.val ∧ r.val < o0 + a) ∧ (o1 ≤ L.val ∧ L.val < o1 + b) then
          w (ix2 ⟨r.val - o0, by omega⟩ ⟨L.val - o1, by omega⟩) else X (ix2 r L) := by
  rw [overlay_unit]
  by_cases hr : (o0 ≤ r.val ∧ r.val < o0 + a) ∧ (o1 ≤ L.val ∧ L.val < o1 + b)
  · rw [dif_pos hr, dif_pos (Fin.forall_fin_two.mpr hr)]
    refine congrArg w (funext (Fin.forall_fin_two.mpr ⟨Fin.ext ?_, Fin.ext ?_⟩)) <;> rw [Rect.unitLocal_val] <;> rfl
  · rw [dif_neg hr, dif_neg fun h => hr (Fin.forall_fin_two.mp h)]

/-- Contents replaced on a rectangle of an array of matrices. -/
theorem ov3 {m n o0 o1 a b : ℕ} {α : Type}
    (inb : ∀ i, (![0, o0, o1] : Fin 3 → ℕ) i + (![1, a, b] : Fin 3 → ℕ) i ≤ (⟨3, ![1, m, n]⟩ : Shape).size i)
    (X : (⟨3, ![1, m, n]⟩ : Shape).Idx → α) (w : (⟨3, ![1, a, b]⟩ : Shape).Idx → α) (r : Fin m) (L : Fin n) :
    (Rect.unit (s := ⟨3, ![1, m, n]⟩) ![0, o0, o1] ![1, a, b] inb).overlay X w (ix3 0 r L)
      = if h : (o0 ≤ r.val ∧ r.val < o0 + a) ∧ (o1 ≤ L.val ∧ L.val < o1 + b) then
          w (ix3 0 ⟨r.val - o0, by omega⟩ ⟨L.val - o1, by omega⟩) else X (ix3 0 r L) := by
  rw [overlay_unit]
  by_cases hr : (o0 ≤ r.val ∧ r.val < o0 + a) ∧ (o1 ≤ L.val ∧ L.val < o1 + b)
  · rw [dif_pos hr, dif_pos (Fin.forall_fin_succ.mpr ⟨⟨Nat.le_refl 0, Nat.one_pos⟩, Fin.forall_fin_two.mpr hr⟩)]
    refine congrArg w (funext (Fin.forall_fin_succ.mpr ⟨Fin.ext ?_, Fin.forall_fin_two.mpr ⟨Fin.ext ?_, Fin.ext ?_⟩⟩))
      <;> rw [Rect.unitLocal_val] <;> rfl
  · rw [dif_neg hr, dif_neg fun h => hr (Fin.forall_fin_two.mp (Fin.forall_fin_succ.mp h).2)]

/-- What a rectangle of a matrix holds. -/
theorem ld2 {m n o0 o1 a b : ℕ} {φ : EltTy} (inb : ∀ i, (![o0, o1] : Fin 2 → ℕ) i + (![a, b] : Fin 2 → ℕ) i ≤ (⟨2, ![m, n]⟩ : Shape).size i)
    (X : (⟨2, ![m, n]⟩ : Shape).Idx → Elt Ideal φ) (r : Fin a) (L : Fin b) (r' : Fin m) (L' : Fin n)
    (hr : r'.val = o0 + r.val) (hL : L'.val = o1 + L.val) :
    View.ld X (Rect.unit (s := ⟨2, ![m, n]⟩) ![o0, o1] ![a, b] inb) (ix2 r L) = X (ix2 r' L') := by
  refine congrArg X (funext (Fin.forall_fin_two.mpr ⟨Fin.ext ?_, Fin.ext ?_⟩))
  · show o0 + 1 * r.val = r'.val; omega
  · show o1 + 1 * L.val = L'.val; omega

/-- What a rectangle of an array of matrices holds. -/
theorem ld3 {m n o0 o1 a b : ℕ} {φ : EltTy}
    (inb : ∀ i, (![0, o0, o1] : Fin 3 → ℕ) i + (![1, a, b] : Fin 3 → ℕ) i ≤ (⟨3, ![1, m, n]⟩ : Shape).size i)
    (X : (⟨3, ![1, m, n]⟩ : Shape).Idx → Elt Ideal φ) (r : Fin a) (L : Fin b) (r' : Fin m) (L' : Fin n)
    (hr : r'.val = o0 + r.val) (hL : L'.val = o1 + L.val) :
    View.ld X (Rect.unit (s := ⟨3, ![1, m, n]⟩) ![0, o0, o1] ![1, a, b] inb) (ix3 0 r L) = X (ix3 0 r' L') := by
  refine congrArg X (funext (Fin.forall_fin_succ.mpr ⟨rfl, Fin.forall_fin_two.mpr ⟨Fin.ext ?_, Fin.ext ?_⟩⟩))
  · show o0 + 1 * r.val = r'.val; omega
  · show o1 + 1 * L.val = L'.val; omega

/-- A chunk of the scores read at a row. -/
theorem ldT {φ : EltTy} (T : Vec Ideal S2048x512 φ) {c : ℕ} (h : c < 32) (a : Fin 64) (L : Fin 512) :
    View.ld T (rT c h) (ix2 a L) = T (ix2 ⟨64 * c + a.val, by omega⟩ L) :=
  ld2 _ T a L _ _ rfl (Nat.zero_add _).symm

/-- A chunk of the scores replaced by values that `f` describes row by row. -/
theorem ovT {φ : EltTy} (T : Vec Ideal S2048x512 φ) (w : Vec Ideal S64x512 φ) {c : ℕ} (h : c < 32) (f : Fin 2048 → Elt Ideal φ)
    (L : Fin 512) (hw : ∀ a : Fin 64, w (ix2 a L) = f ⟨64 * c + a.val, by omega⟩) (r : Fin 2048) :
    (rT c h).overlay T w (ix2 r L) = if 64 * c ≤ r.val ∧ r.val < 64 * c + 64 then f r else T (ix2 r L) := by
  refine (ov2 (inbT h) T w r L).trans ?_
  by_cases hr : 64 * c ≤ r.val ∧ r.val < 64 * c + 64
  · rw [dif_pos ⟨hr, Nat.zero_le _, by omega⟩, if_pos hr]
    refine Eq.trans ?_ ((hw ⟨r.val - 64 * c, by omega⟩).trans (congrArg f (Fin.ext ?_)))
    · rfl
    · show 64 * c + (r.val - 64 * c) = r.val; omega
  · rw [dif_neg fun h => hr h.1, if_neg hr]

/-! ## One chunk of a reduction -/

/-- What bounds the running maximum after a chunk. -/
theorem mx_chunk (m : FVec Ideal S8x512 .f32) (w : FVec Ideal S64x512 .f32) {c : ℕ} (h : c < 32) (f : Fin 2048 → EReal)
    (b : Fin 8) (L : Fin 512) (hw : ∀ a : Fin 64, w (ix2 a L) = f ⟨64 * c + a.val, by omega⟩) (z : EReal) :
    mxV m w (ix2 b L) ≤ z ↔ m (ix2 b L) ≤ z ∧ ∀ r : Fin 2048, 64 * c ≤ r.val → r.val < 64 * c + 64 → r.val % 8 = b.val → f r ≤ z := by
  rw [mxV_le]
  refine and_congr_right fun _ => ⟨fun hx r h1 h2 h3 => ?_, fun hx x => ?_⟩
  · have := hx ⟨(r.val - 64 * c) / 8, by omega⟩
    rw [hw] at this
    convert this using 2
    apply Fin.ext
    show r.val = 64 * c + ((r.val - 64 * c) / 8 * 8 + b.val)
    omega
  · rw [hw]
    exact hx _ (by simp) (by simp; omega) (by simp; omega)

/-- The running sum after a chunk. -/
theorem sm_chunk (l : FVec Ideal S8x512 .f32) (w : FVec Ideal S64x512 .f32) {c : ℕ} (h : c < 32) (f : Fin 2048 → EReal)
    (b : Fin 8) (L : Fin 512) (hw : ∀ a : Fin 64, w (ix2 a L) = f ⟨64 * c + a.val, by omega⟩) :
    smV l w (ix2 b L) = l (ix2 b L)
      + ∑ r : Fin 2048, if 64 * c ≤ r.val ∧ r.val < 64 * c + 64 ∧ r.val % 8 = b.val then f r else 0 := by
  rw [smV_apply, ← Finset.sum_filter]
  refine congrArg (_ + ·) (Finset.sum_bij (fun (x : Fin 8) _ => (⟨64 * c + (x.val * 8 + b.val), by omega⟩ : Fin 2048)) ?_ ?_ ?_ ?_)
  · intro x _
    simp only [Finset.mem_filter, Finset.mem_univ, true_and]
    omega
  · intro x _ y _ hxy
    have := Fin.mk.inj hxy
    apply Fin.ext; omega
  · intro r hr
    simp only [Finset.mem_filter, Finset.mem_univ, true_and] at hr
    exact ⟨⟨(r.val - 64 * c) / 8, by omega⟩, Finset.mem_univ _, Fin.ext (by
      show 64 * c + ((r.val - 64 * c) / 8 * 8 + b.val) = r.val; omega)⟩
  · intro x _
    exact hw _

/-! ## The loops -/

variable {dv : Dev nD} {R : Refs} {X : Inp Ideal}

/-- The first pass below the diagonal: the soft cap's tangent on the chunks' rows, and the running maximum over them. -/
theorem good_tanhOff {W : sProp 𝕄} {Q : PUnit → sProp 𝕄} (c1 : FVec Ideal S1x512 .f32) (K : FVec Ideal S8x512 .f32 → Body Ideal) :
    ∀ (n c : ℕ) (h : c + n ≤ 32) (m : FVec Ideal S8x512 .f32) (s : St Ideal),
    (∀ (m' : FVec Ideal S8x512 .f32) (t' : Vec Ideal S2048x512 .f32),
      (∀ r L, t' (ix2 r L) = if 64 * c ≤ r.val ∧ r.val < 64 * (c + n) then Ideal.tanh (s.t (ix2 r L) * c1 (ix2 0 L)) else s.t (ix2 r L)) →
      (∀ b L z, m' (ix2 b L) ≤ z ↔ m (ix2 b L) ≤ z
        ∧ ∀ r : Fin 2048, 64 * c ≤ r.val → r.val < 64 * (c + n) → r.val % 8 = b.val → t' (ix2 r L) ≤ z) →
      Good dv R X W Q (K m') { s with t := t' }) →
    Good dv R X W Q (tanhOff R c1 n c h m K) s := by
  intro n
  induction n with
  | zero =>
    intro c h m s hK
    exact hK m s.t (fun r L => by rw [if_neg (by omega)])
      (fun b L z => ⟨fun hz => ⟨hz, fun r h1 h2 => by omega⟩, And.left⟩)
  | succ n ih =>
    intro c h m s hK
    have hw : ∀ (L : Fin 512) (a : Fin 64), tV c1 (View.ld s.t (rT c (by omega))) (ix2 a L)
        = (fun r : Fin 2048 => Ideal.tanh (s.t (ix2 r L) * c1 (ix2 0 L))) ⟨64 * c + a.val, by omega⟩ := by
      intro L a; rw [tV_apply, ldT]
    have ho : ∀ (r : Fin 2048) (L : Fin 512), (rT c (by omega)).overlay s.t (stV (tV c1 (View.ld s.t (rT c (by omega))))) (ix2 r L)
        = if 64 * c ≤ r.val ∧ r.val < 64 * c + 64 then Ideal.tanh (s.t (ix2 r L) * c1 (ix2 0 L)) else s.t (ix2 r L) := fun r L =>
      ovT s.t _ (by omega) (fun r : Fin 2048 => Ideal.tanh (s.t (ix2 r L) * c1 (ix2 0 L))) L
        (fun a => (stV_apply _ a L).trans (hw L a)) r
    refine load8 (load8 (store8 (ih (c + 1) (by omega) _ _ fun m' t' ht hm => ?_)))
    have ht' : ∀ r L, t' (ix2 r L) = if 64 * c ≤ r.val ∧ r.val < 64 * (c + (n + 1)) then Ideal.tanh (s.t (ix2 r L) * c1 (ix2 0 L)) else s.t (ix2 r L) := by
      intro r L
      rw [ht]
      simp only [ho]
      split_ifs <;> first | rfl | (exfalso; omega)
    refine hK m' t' ht' fun b L z => (hm b L z).trans ?_
    rw [mx_chunk m _ (c := c) (by omega) (fun r : Fin 2048 => Ideal.tanh (s.t (ix2 r L) * c1 (ix2 0 L))) b L (hw L)]
    constructor
    · rintro ⟨⟨h1, h2⟩, h3⟩
      refine ⟨h1, fun r h4 h5 h6 => ?_⟩
      by_cases hr : r.val < 64 * c + 64
      · rw [ht', if_pos ⟨h4, h5⟩]; exact h2 r h4 hr h6
      · exact h3 r (by omega) (by omega) h6
    · rintro ⟨h1, h2⟩
      refine ⟨⟨h1, fun r h4 h5 h6 => ?_⟩, fun r h4 h5 h6 => h2 r (by omega) (by omega) h6⟩
      have := h2 r h4 (by omega) h6
      rwa [ht', if_pos ⟨h4, by omega⟩] at this

/-- The first pass on the diagonal: the same, cut by the cap table. -/
theorem good_tanhDiag {W : sProp 𝕄} {Q : PUnit → sProp 𝕄} (c1 : FVec Ideal S1x512 .f32) (c : ℕ) (hc : c < 32) (d : ℕ) (hd : d < 2)
    (m : FVec Ideal S8x512 .f32) (K : FVec Ideal S8x512 .f32 → Body Ideal) (s : St Ideal) (cp : Fin 2048 → Fin 512 → EReal)
    (hcp : ∀ (a : Fin 64) L, s.cap (ix2 ⟨64 * d + a.val, by omega⟩ L) = cp ⟨64 * c + a.val, by omega⟩ L)
    (hK : ∀ (m' : FVec Ideal S8x512 .f32) (t' : Vec Ideal S2048x512 .f32),
      (∀ r L, t' (ix2 r L) = if 64 * c ≤ r.val ∧ r.val < 64 * c + 64 then
        min (Ideal.tanh (s.t (ix2 r L) * c1 (ix2 0 L))) (cp r L) else s.t (ix2 r L)) →
      (∀ b L z, m' (ix2 b L) ≤ z ↔ m (ix2 b L) ≤ z
        ∧ ∀ r : Fin 2048, 64 * c ≤ r.val → r.val < 64 * c + 64 → r.val % 8 = b.val → t' (ix2 r L) ≤ z) →
      Good dv R X W Q (K m') { s with t := t' }) :
    Good dv R X W Q (tanhDiag R c1 c hc d hd m K) s := by
  have hw : ∀ (L : Fin 512) (a : Fin 64), tcV c1 (View.ld s.t (rT c hc)) (View.ld s.cap (rCap d hd)) (ix2 a L)
      = (fun r : Fin 2048 => min (Ideal.tanh (s.t (ix2 r L) * c1 (ix2 0 L))) (cp r L)) ⟨64 * c + a.val, by omega⟩ := by
    intro L a
    rw [tcV_apply, ldT]
    refine congrArg (min _) (Eq.trans ?_ (hcp a L))
    exact ld2 _ s.cap a L _ _ rfl (Nat.zero_add _).symm
  have ho : ∀ (r : Fin 2048) (L : Fin 512), (rT c hc).overlay s.t (stV (tcV c1 (View.ld s.t (rT c hc)) (View.ld s.cap (rCap d hd)))) (ix2 r L)
      = if 64 * c ≤ r.val ∧ r.val < 64 * c + 64 then min (Ideal.tanh (s.t (ix2 r L) * c1 (ix2 0 L))) (cp r L) else s.t (ix2 r L) := fun r L =>
    ovT s.t _ hc (fun r : Fin 2048 => min (Ideal.tanh (s.t (ix2 r L) * c1 (ix2 0 L))) (cp r L)) L
      (fun a => (stV_apply _ a L).trans (hw L a)) r
  refine load8 (load11 (load8 (store8 (hK _ _ ho fun b L z => ?_))))
  rw [mx_chunk m _ hc (fun r : Fin 2048 => min (Ideal.tanh (s.t (ix2 r L) * c1 (ix2 0 L))) (cp r L)) b L (hw L)]
  refine and_congr_right fun _ => forall_congr' fun r => forall_congr' fun h1 => forall_congr' fun h2 => forall_congr' fun _ => ?_
  rw [ho, if_pos ⟨h1, h2⟩]

/-- The clip at 448. -/
def clip (x : EReal) : EReal := min ((448 : ℝ) : EReal) (max ((-448 : ℝ) : EReal) x)

/-- The second pass: the weights' codes on the chunks' rows, and the running sum of the weights. -/
theorem good_expLoop {W : sProp 𝕄} {Q : PUnit → sProp 𝕄} (bias : FVec Ideal S1x512 .f32) (K : FVec Ideal S8x512 .f32 → Body Ideal) :
    ∀ (n c : ℕ) (h : c + n ≤ 32) (l : FVec Ideal S8x512 .f32) (s : St Ideal),
    (∀ (l' : FVec Ideal S8x512 .f32) (p' : Vec Ideal S2048x512 .fp8e4m3),
      (∀ r L, p' (ix2 r L) = if 64 * c ≤ r.val ∧ r.val < 64 * (c + n) then
        clip (Ideal.exp2 (s.t (ix2 r L) * eScale + bias (ix2 0 L))) else s.p (ix2 r L)) →
      (∀ b L, l' (ix2 b L) = l (ix2 b L) + ∑ r : Fin 2048, if 64 * c ≤ r.val ∧ r.val < 64 * (c + n) ∧ r.val % 8 = b.val then
        Ideal.exp2 (s.t (ix2 r L) * eScale + bias (ix2 0 L)) else 0) →
      Good dv R X W Q (K l') { s with p := p' }) →
    Good dv R X W Q (expLoop R bias n c h l K) s := by
  intro n
  induction n with
  | zero =>
    intro c h l s hK
    exact hK l s.p (fun r L => by rw [if_neg (by omega)])
      (fun b L => by rw [Finset.sum_eq_zero fun r _ => if_neg (by omega), add_zero])
  | succ n ih =>
    intro c h l s hK
    have hw : ∀ (L : Fin 512) (a : Fin 64), pV bias (View.ld s.t (rT c (by omega))) (ix2 a L)
        = (fun r : Fin 2048 => Ideal.exp2 (s.t (ix2 r L) * eScale + bias (ix2 0 L))) ⟨64 * c + a.val, by omega⟩ := by
      intro L a; rw [pV_apply, ldT]
    have ho : ∀ (r : Fin 2048) (L : Fin 512), (rT c (by omega)).overlay s.p (pcV (pV bias (View.ld s.t (rT c (by omega))))) (ix2 r L)
        = if 64 * c ≤ r.val ∧ r.val < 64 * c + 64 then clip (Ideal.exp2 (s.t (ix2 r L) * eScale + bias (ix2 0 L))) else s.p (ix2 r L) := fun r L =>
      ovT s.p _ (by omega) (fun r : Fin 2048 => clip (Ideal.exp2 (s.t (ix2 r L) * eScale + bias (ix2 0 L)))) L
        (fun a => (pcV_apply _ a L).trans (congrArg clip (hw L a))) r
    refine load8 (load9 (store9 (ih (c + 1) (by omega) _ _ fun l' p' hp hl => ?_)))
    refine hK l' p' (fun r L => ?_) fun b L => ?_
    · rw [hp]
      simp only [ho]
      split_ifs <;> first | rfl | (exfalso; omega)
    · rw [hl, sm_chunk l _ (c := c) (by omega)
        (fun r : Fin 2048 => Ideal.exp2 (s.t (ix2 r L) * eScale + bias (ix2 0 L))) b L (hw L), add_assoc, ← Finset.sum_add_distrib]
      refine congrArg (_ + ·) (Finset.sum_congr rfl fun r _ => ?_)
      split_ifs <;> first | rfl | (exfalso; omega) | exact add_zero _ | exact zero_add _

/-- One tile of the result. -/
theorem good_outStep {W : sProp 𝕄} {Q : PUnit → sProp 𝕄} {i : ℕ} {hi : i < 16} {g : ℕ} {hg : g < 4} {off : ℕ}
    {h : S128x512.Slices ![0, off] S128x128} {o : FVec Ideal S128x512 .f32} {K : Body Ideal} {s : St Ideal}
    (hK : Good dv R X W Q K { s with o := (rQ i g hi hg).overlay s.o (outV off h o) }) :
    Good dv R X W Q (outStep R i hi g hg off h o K) s :=
  load7 (store7 hK)

end Cert.KernelIdeal.Own
-- ==== Proof.Block.lean ====
module

public import proofs.«01_k».proof.Proof.Loops

/-! One query block, then the whole body: what the result buffer holds when the looped body ends, row by row, in terms
of what the input buffers hold. -/

@[expose] public section

set_option maxRecDepth 16384

noncomputable section

namespace Cert.KernelIdeal.Own

open Cert.KernelIdeal Cert.KernelIdeal.Gen Idealize.ShloMosaic Idealize.ShloMosaic.TcCoe
open Idealize.SL Idealize.SL.RA Idealize.SL.BI Idealize.SL.Sem
open scoped BigOperators Idealize.SL.BI
open Idealize.SL.BI.BIBase Idealize.SL.BI.Laws Idealize.SL.ProofMode

local notation "𝕄" => MT nD τ sig Unit (Elt Ideal) ℕ (UR sig nD τ) ℕ

/-! ## The result, row by row -/

/-- The lane that holds query row `y` of the head that column `l` belongs to. -/
def lane (y : Fin 2048) (l : Fin 512) : Fin 512 := ⟨128 * (l.val / 128) + y.val % 128, by omega⟩

/-- The product of key row `r` and query row `y` of column `l`'s head. -/
def score (X : Inp Ideal) (y : Fin 2048) (l : Fin 512) (r : Fin 2048) : EReal :=
  ∑ d : Fin 128, X.x5 (ix3 0 r d) * X.x4 (ix3 0 y ⟨128 * (l.val / 128) + d.val, by omega⟩)

/-- The soft cap's tangent of a score the query may see, minus infinity for the others. -/
def capped (X : Inp Ideal) (y : Fin 2048) (l : Fin 512) (r : Fin 2048) : EReal :=
  if r.val ≤ y.val then Ideal.tanh (score X y l r * X.x2 (ix3 0 0 (lane y l))) else ⊥

/-- The largest capped score of the row. -/
def top (X : Inp Ideal) (y : Fin 2048) (l : Fin 512) : EReal := Finset.univ.sup (capped X y l)

/-- The weight of key row `r`. -/
def weight (X : Inp Ideal) (y : Fin 2048) (l : Fin 512) (r : Fin 2048) : EReal :=
  Ideal.exp2 (capped X y l r * eScale + (((8 : ℝ) : EReal) - eScale * top X y l))

/-- The result at row `y`, column `l`. -/
def result (X : Inp Ideal) (y : Fin 2048) (l : Fin 512) : EReal :=
  (∑ r : Fin 2048, X.x6 (ix3 0 r ⟨l.val % 128, by omega⟩) * clip (weight X y l r))
    * Ideal.div (X.x3 (ix3 0 0 (lane y l)) * (((256 : ℝ)⁻¹ : ℝ) : EReal))
      ((∑ r : Fin 2048, weight X y l r) * (((256 : ℝ)⁻¹ : ℝ) : EReal))

/-! ## Facts about the functions -/

/-- The hyperbolic tangent is below two. -/
theorem tanh_le_two (x : EReal) : Ideal.tanh x ≤ ((2 : ℝ) : EReal) := by
  have h1 : (1 : EReal) ≤ ((2 : ℝ) : EReal) := by
    rw [← EReal.coe_one]; exact EReal.coe_le_coe_iff.mpr (by norm_num)
  induction x with
  | bot => exact le_trans (by show (-1 : EReal) ≤ 1; rw [← EReal.coe_one, ← EReal.coe_neg]; exact EReal.coe_le_coe_iff.mpr (by norm_num)) h1
  | top => exact h1
  | coe r => exact EReal.coe_le_coe_iff.mpr ((Real.tanh_lt_one r).le.trans (by norm_num))

/-- A masked tangent weighs nothing, whatever the bias. -/
theorem exp2_masked (b : EReal) : Ideal.exp2 (⊥ * eScale + b) = 0 := by
  have h : (0 : ℝ) < 50 * (Real.log 2)⁻¹ := by
    have := Real.log_pos (by norm_num : (1 : ℝ) < 2)
    positivity
  rw [eScale, EReal.bot_mul_coe_of_pos h, EReal.bot_add]
  rfl

/-- The clip leaves zero in place. -/
theorem clip_zero : clip 0 = 0 := by
  unfold clip
  rw [← EReal.coe_zero, max_eq_right (EReal.coe_le_coe_iff.mpr (by norm_num)), min_eq_right (EReal.coe_le_coe_iff.mpr (by norm_num))]

/-- A key row after the query row weighs nothing. -/
theorem weight_masked (X : Inp Ideal) {y : Fin 2048} {l : Fin 512} {r : Fin 2048} (h : y.val < r.val) : weight X y l r = 0 := by
  unfold weight capped
  rw [if_neg (by omega)]
  exact exp2_masked _

/-- A sum over the first `n` rows is one over all rows of what vanishes on the others. -/
theorem sum_rows {n : ℕ} (hn : n ≤ 2048) (f : Fin 2048 → EReal) (h0 : ∀ r : Fin 2048, n ≤ r.val → f r = 0) :
    ∑ k : Fin n, f ⟨k.val, by omega⟩ = ∑ r, f r := by
  have h1 : ∑ r : Fin 2048, f r = ∑ r ∈ Finset.univ.filter (fun r : Fin 2048 => r.val < n), f r := by
    rw [Finset.sum_filter]
    refine Finset.sum_congr rfl fun r _ => ?_
    split_ifs with h
    · rfl
    · exact h0 r (by omega)
  rw [h1]
  refine Finset.sum_bij (fun (k : Fin n) _ => (⟨k.val, by omega⟩ : Fin 2048)) ?_ ?_ ?_ ?_
  · intro k _; simp
  · intro k _ k' _ h; exact Fin.ext (Fin.mk.inj h)
  · intro r hr
    simp only [Finset.mem_filter, Finset.mem_univ, true_and] at hr
    exact ⟨⟨r.val, hr⟩, Finset.mem_univ _, rfl⟩
  · intro k _; rfl

/-! ## One query block -/

/-- The scores the block stores. -/
theorem score_block (X : Inp Ideal) {i : ℕ} (hi : i < 16) (y : Fin 2048) (l : Fin 512) (hy : 128 * i ≤ y.val ∧ y.val < 128 * (i + 1))
    (k : Fin (128 * (i + 1))) :
    scV (128 * (i + 1)) (qV (View.ld X.x4 (rQ i 0 hi (by decide))) (View.ld X.x4 (rQ i 1 hi (by decide)))
      (View.ld X.x4 (rQ i 2 hi (by decide))) (View.ld X.x4 (rQ i 3 hi (by decide)))) (View.ld X.x5 (rK (128 * (i + 1)) (by omega)))
      (ix2 k (lane y l)) = score X y l ⟨k.val, by omega⟩ := by
  rw [scV_apply]
  refine Finset.sum_congr rfl fun d _ => congrArg₂ (· * ·) ?_ ?_
  · exact ld3 _ X.x5 k d _ _ (Nat.zero_add _).symm (Nat.zero_add _).symm
  · refine (qV_apply (fun g => View.ld X.x4 (rQ i g.val hi g.isLt)) (lane y l) d).trans ?_
    refine ld3 _ X.x4 _ d y _ ?_ ?_
    · show y.val = 128 * i + (128 * (l.val / 128) + y.val % 128) % 128; omega
    · show 128 * (l.val / 128) + d.val = 128 * ((128 * (l.val / 128) + y.val % 128) / 128) + d.val; omega

/-- The block's result from the capped scores, the maximum, the sum and the codes. -/
theorem block_value (X : Inp Ideal) {i : ℕ} (hi : i < 16) (y : Fin 2048) (l : Fin 512) (hy : 128 * i ≤ y.val ∧ y.val < 128 * (i + 1))
    (t : Fin 2048 → EReal) (m l' : FVec Ideal S8x512 .f32)
    (vt : Vec Ideal ⟨2, ![128, 128 * (i + 1)]⟩ .fp8e4m3) (p : Vec Ideal ⟨2, ![128 * (i + 1), 512]⟩ .fp8e4m3)
    (ht : ∀ r : Fin 2048, r.val < 128 * (i + 1) → t r = capped X y l r)
    (hm : ∀ z, mTop m (lane y l) ≤ z ↔ ∀ r : Fin 2048, r.val < 128 * (i + 1) → t r ≤ z)
    (hl : ∑ b : Fin 8, l' (ix2 b (lane y l)) = ∑ r : Fin 2048, if r.val < 128 * (i + 1) then
      Ideal.exp2 (t r * eScale + biasV m (ix2 0 (lane y l))) else 0)
    (hv : ∀ (d : Fin 128) (k : Fin (128 * (i + 1))), vt (ix2 d k) = X.x6 (ix3 0 ⟨k.val, by omega⟩ d))
    (hp : ∀ k : Fin (128 * (i + 1)), p (ix2 k (lane y l))
      = clip (Ideal.exp2 (t ⟨k.val, by omega⟩ * eScale + biasV m (ix2 0 (lane y l))))) :
    oV (128 * (i + 1)) (rowV X.x3) l' vt p (ix2 ⟨l.val % 128, by omega⟩ (lane y l)) = result X y l := by
  have hmx : mTop m (lane y l) = top X y l := eq_of_forall_ge_iff fun z => (hm z).trans (by
    unfold top
    rw [Finset.sup_le_iff]
    constructor
    · intro h r _
      by_cases hr : r.val < 128 * (i + 1)
      · rw [← ht r hr]; exact h r hr
      · unfold capped; rw [if_neg (by omega)]; exact bot_le
    · intro h r hr
      rw [ht r hr]; exact h r (Finset.mem_univ r))
  have hw : ∀ r : Fin 2048, r.val < 128 * (i + 1) → Ideal.exp2 (t r * eScale + biasV m (ix2 0 (lane y l))) = weight X y l r := by
    intro r hr
    rw [biasV_apply, hmx, ht r hr]; rfl
  rw [oV_apply, rowV_apply]
  unfold result
  refine congrArg₂ (· * ·) ?_ (congrArg (fun x => Ideal.div _ (x * _)) ?_)
  · refine Eq.trans (Finset.sum_congr rfl fun k _ => ?_) (sum_rows (n := 128 * (i + 1)) (by omega)
      (fun r => X.x6 (ix3 0 r ⟨l.val % 128, by omega⟩) * clip (weight X y l r)) fun r hr => ?_)
    · rw [hv, hp, hw _ k.isLt]
    · rw [weight_masked X (by omega), clip_zero, mul_zero]
  · rw [hl]
    refine Finset.sum_congr rfl fun r _ => ?_
    split_ifs with hr
    · exact hw r hr
    · exact (weight_masked X (by omega)).symm

/-- One tile of the result replaced. -/
theorem ovQ {i g : ℕ} (hi : i < 16) (hg : g < 4) {off : ℕ} (hoff : off = 128 * g) (h : S128x512.Slices ![0, off] S128x128)
    (O : Vec Ideal S1x2048x512 .bf16) (o : FVec Ideal S128x512 .f32) (y : Fin 2048) (l : Fin 512) :
    (rQ i g hi hg).overlay O (outV off h o) (ix3 0 y l)
      = if (128 * i ≤ y.val ∧ y.val < 128 * (i + 1)) ∧ l.val / 128 = g then o (ix2 ⟨l.val % 128, by omega⟩ (lane y l))
        else O (ix3 0 y l) := by
  refine (ov3 (inbQ hi hg) O (outV off h o) y l).trans ?_
  by_cases hc : (128 * i ≤ y.val ∧ y.val < 128 * (i + 1)) ∧ l.val / 128 = g
  · rw [if_pos hc, dif_pos ⟨⟨hc.1.1, by show y.val < 128 * i + 128; omega⟩, by omega, by show l.val < 128 * g + 128; omega⟩]
    refine (outV_apply off h (by omega) o _ _).trans (congrArg o (congrArg₂ ix2 (Fin.ext ?_) (Fin.ext ?_)))
    · show l.val - 128 * g = l.val % 128; omega
    · show off + (y.val - 128 * i) = 128 * (l.val / 128) + y.val % 128; omega
  · rw [if_neg hc, dif_neg fun h' => hc ?_]
    have h1 : y.val < 128 * i + 128 := h'.1.2
    have h2 : l.val < 128 * g + 128 := h'.2.2
    have h3 := h'.1.1
    have h4 := h'.2.1
    omega

/-- The four tiles of a block replaced. -/
theorem ovQ4 {i : ℕ} (hi : i < 16) (O : Vec Ideal S1x2048x512 .bf16) (o : FVec Ideal S128x512 .f32) (y : Fin 2048) (l : Fin 512) :
    (rQ i 3 hi (by decide)).overlay ((rQ i 2 hi (by decide)).overlay ((rQ i 1 hi (by decide)).overlay ((rQ i 0 hi (by decide)).overlay O
      (outV 0 slices_S128x512_o0_0_S128x128 o)) (outV 128 slices_S128x512_o0_128_S128x128 o))
      (outV 256 slices_S128x512_o0_256_S128x128 o)) (outV 384 slices_S128x512_o0_384_S128x128 o) (ix3 0 y l)
      = if 128 * i ≤ y.val ∧ y.val < 128 * (i + 1) then o (ix2 ⟨l.val % 128, by omega⟩ (lane y l)) else O (ix3 0 y l) := by
  rw [ovQ (g := 3) (off := 384) hi (by decide) rfl, ovQ (g := 2) (off := 256) hi (by decide) rfl,
    ovQ (g := 1) (off := 128) hi (by decide) rfl, ovQ (g := 0) (off := 0) hi (by decide) rfl]
  split_ifs <;> first | rfl | (exfalso; omega)

variable {dv : Dev nD} {R : Refs} {X : Inp Ideal}

set_option maxHeartbeats 2000000 in
/-- Query block `i` writes its rows of the result. -/
theorem good_block {W : sProp 𝕄} {Q : PUnit → sProp 𝕄} {i : ℕ} {hi : i < 16} {K : Body Ideal} {s : St Ideal}
    (hvt : ∀ (d : Fin 128) (r : Fin 2048), s.vt (ix2 d r) = X.x6 (ix3 0 r d))
    (hcap : ∀ (a : Fin 128) (L : Fin 512), s.cap (ix2 a L) = if a.val ≤ L.val % 128 then ((2 : ℝ) : EReal) else ⊥)
    (hK : ∀ s' : St Ideal, s'.vt = s.vt → s'.cap = s.cap →
      (∀ y l, s'.o (ix3 0 y l) = if 128 * i ≤ y.val ∧ y.val < 128 * (i + 1) then result X y l else s.o (ix3 0 y l)) →
      Good dv R X W Q K s') :
    Good dv R X W Q (block R (rowV X.x2) (rowV X.x3) i hi K) s := by
  unfold block
  refine load4 (load4 (load4 (load4 (load5 (load8 (store8 (good_tanhOff _ _ _ _ _ _ _ fun m1 t2 h2 hm1 => ?_)))))))
  refine good_tanhDiag _ _ _ _ _ _ _ _ (fun r L => if r.val - 128 * i ≤ L.val % 128 then ((2 : ℝ) : EReal) else ⊥)
    (fun a L => ?_) fun m2 t3 h3 hm2 => ?_
  · rw [hcap]; simp only; congr 1; simp only [eq_iff_iff]; omega
  refine good_tanhDiag _ _ _ _ _ _ _ _ (fun r L => if r.val - 128 * i ≤ L.val % 128 then ((2 : ℝ) : EReal) else ⊥)
    (fun a L => ?_) fun m3 t4 h4 hm3 => ?_
  · rw [hcap]; simp only; congr 1; simp only [eq_iff_iff]; omega
  refine good_expLoop _ _ _ _ _ _ _ ?_
  intro l' p' hp hl
  refine load10 (load9 ?_)
  refine good_outStep ?_
  refine good_outStep ?_
  refine good_outStep ?_
  refine good_outStep ?_
  refine hK _ rfl rfl ?_
  intro y l
  simp only at h2 h3 h4 hp hl hm1 hm2 hm3
  refine (ovQ4 hi s.o _ y l).trans ?_
  by_cases hy : 128 * i ≤ y.val ∧ y.val < 128 * (i + 1)
  swap
  · rw [if_neg hy, if_neg hy]
  rw [if_pos hy, if_pos hy]
  have key : oV (128 * (i + 1)) (rowV X.x3) l' (View.ld s.vt (rVt (128 * (i + 1)) (by omega)))
      (View.ld p' (rKv (128 * (i + 1)) (by omega))) (ix2 ⟨l.val % 128, by omega⟩ (lane y l)) = result X y l := by
    have hlm : (lane y l).val % 128 = y.val % 128 := by
      show (128 * (l.val / 128) + y.val % 128) % 128 = _; omega
    -- the scores as stored
    have h1 : ∀ r : Fin 2048, r.val < 128 * (i + 1) → _ = score X y l r := fun r hr =>
      ((ov2 (inbKv (n := 128 * (i + 1)) (by omega)) s.t _ r (lane y l)).trans
        (dif_pos ⟨⟨Nat.zero_le _, by omega⟩, Nat.zero_le _, by omega⟩)).trans (score_block X hi y l hy ⟨r.val, hr⟩)
    have hc1 : rowV X.x2 (ix2 0 (lane y l)) = X.x2 (ix3 0 0 (lane y l)) := rowV_apply _ _
    have h20 : ∀ r : Fin 2048, r.val < 128 * i → t2 (ix2 r (lane y l)) = capped X y l r := by
      intro r hr
      rw [h2, if_pos ⟨by omega, by omega⟩, hc1]
      unfold capped
      rw [if_pos (by omega)]
      exact congrArg (fun x => Ideal.tanh (x * _)) (h1 r (by omega))
    have h21 : ∀ r : Fin 2048, 128 * i ≤ r.val → r.val < 128 * (i + 1) → t2 (ix2 r (lane y l)) = score X y l r := by
      intro r hr hr'
      rw [h2, if_neg (by omega)]
      exact h1 r hr'
    have hcut : ∀ r : Fin 2048, 128 * i ≤ r.val →
        min (Ideal.tanh (score X y l r * X.x2 (ix3 0 0 (lane y l)))) (if r.val - 128 * i ≤ (lane y l).val % 128 then ((2 : ℝ) : EReal) else ⊥)
          = capped X y l r := by
      intro r hr
      unfold capped
      by_cases hry : r.val ≤ y.val
      · rw [if_pos hry, if_pos (by omega), min_eq_left (tanh_le_two _)]
      · rw [if_neg hry, if_neg (by omega), min_eq_right bot_le]
    have h30 : ∀ r : Fin 2048, r.val < 128 * i + 64 → t3 (ix2 r (lane y l)) = capped X y l r := by
      intro r hr
      by_cases h : 64 * (2 * i) ≤ r.val ∧ r.val < 64 * (2 * i) + 64
      · rw [h3, if_pos h, h21 r (by omega) (by omega), hc1, hcut r (by omega)]
      · rw [h3, if_neg h]; exact h20 r (by omega)
    have h31 : ∀ r : Fin 2048, 128 * i + 64 ≤ r.val → r.val < 128 * (i + 1) → t3 (ix2 r (lane y l)) = score X y l r := by
      intro r hr hr'
      rw [h3, if_neg (by omega)]
      exact h21 r (by omega) hr'
    have h40 : ∀ r : Fin 2048, r.val < 128 * (i + 1) → t4 (ix2 r (lane y l)) = capped X y l r := by
      intro r hr
      by_cases h : 64 * (2 * i + 1) ≤ r.val ∧ r.val < 64 * (2 * i + 1) + 64
      · rw [h4, if_pos h, h31 r (by omega) (by omega), hc1, hcut r (by omega)]
      · rw [h4, if_neg h]; exact h30 r (by omega)
    refine block_value X hi y l hy (fun r => t4 (ix2 r (lane y l))) m3 l' _ _ h40 (fun z => ?_) ?_ (fun d k => ?_) fun k => ?_
    · unfold mTop
      rw [Finset.sup_le_iff]
      constructor
      · intro h r hr
        have hb := h ⟨r.val % 8, by omega⟩ (Finset.mem_univ _)
        rw [hm3, hm2, hm1] at hb
        obtain ⟨⟨⟨-, h5⟩, h6⟩, h7⟩ := hb
        rw [h40 r hr]
        by_cases ha : r.val < 128 * i
        · rw [← h20 r ha]; exact h5 r (by omega) (by omega) rfl
        · by_cases hb : r.val < 128 * i + 64
          · rw [← h30 r hb]; exact h6 r (by omega) (by omega) rfl
          · rw [← h40 r hr]; exact h7 r (by omega) (by omega) rfl
      · intro h b _
        rw [hm3, hm2, hm1, m0V_apply]
        refine ⟨⟨⟨bot_le, fun r h5 h6 _ => ?_⟩, fun r h5 h6 _ => ?_⟩, fun r h5 h6 _ => ?_⟩
        · rw [h20 r (by omega), ← h40 r (by omega)]; exact h r (by omega)
        · rw [h30 r (by omega), ← h40 r (by omega)]; exact h r (by omega)
        · exact h r (by omega)
    · rw [Finset.sum_congr rfl fun b _ => (hl b (lane y l)).trans ((congrArg (· + _) (l0V_apply b _)).trans (zero_add _)), Finset.sum_comm]
      refine Finset.sum_congr rfl fun r _ => ?_
      rw [Finset.sum_eq_single (⟨r.val % 8, by omega⟩ : Fin 8)]
      · by_cases hr : r.val < 128 * (i + 1)
        · rw [if_pos hr, if_pos ⟨by omega, by omega, rfl⟩]
        · rw [if_neg hr, if_neg (by omega)]
      · intro b _ hb
        refine if_neg fun h => hb (Fin.ext h.2.2.symm)
      · intro h; exact absurd (Finset.mem_univ _) h
    · exact (ld2 (inbVt (n := 128 * (i + 1)) (by omega)) s.vt d k _ _ (Nat.zero_add _).symm (Nat.zero_add _).symm).trans (hvt _ _)
    · refine (ld2 (inbKv (n := 128 * (i + 1)) (by omega)) p' k (lane y l) ⟨k.val, by omega⟩ (lane y l) (Nat.zero_add _).symm (Nat.zero_add _).symm).trans ?_
      rw [hp, if_pos ⟨by omega, by show k.val < _; omega⟩]
  exact key

/-- The query blocks from block `i` write their rows of the result. -/
theorem good_blocks {W : sProp 𝕄} {Q : PUnit → sProp 𝕄} : ∀ (n i : ℕ) (h : i + n ≤ 16) (s : St Ideal),
    (∀ (d : Fin 128) (r : Fin 2048), s.vt (ix2 d r) = X.x6 (ix3 0 r d)) →
    (∀ (a : Fin 128) (L : Fin 512), s.cap (ix2 a L) = if a.val ≤ L.val % 128 then ((2 : ℝ) : EReal) else ⊥) →
    (∀ s' : St Ideal,
      (∀ y l, s'.o (ix3 0 y l) = if 128 * i ≤ y.val ∧ y.val < 128 * (i + n) then result X y l else s.o (ix3 0 y l)) →
      iprop(Res dv R X s' ∗ W) ⊢ Q ⟨⟩) →
    Good dv R X W Q (blocks R (rowV X.x2) (rowV X.x3) n i h) s := by
  intro n
  induction n with
  | zero =>
    intro i h s _ _ hQ
    exact good_ret (hQ s fun y l => by rw [if_neg (by omega)])
  | succ n ih =>
    intro i h s hvt hcap hQ
    refine good_block hvt hcap fun s1 e1 e2 ho => ih (i + 1) (by omega) s1 (by rw [e1]; exact hvt) (by rw [e2]; exact hcap) fun s' ho' => hQ s' fun y l => ?_
    rw [ho', ho]
    split_ifs <;> first | rfl | (exfalso; omega)

/-- The whole body: at its end the result buffer holds the result at every row and column. -/
theorem good_body {W : sProp 𝕄} {Q : PUnit → sProp 𝕄} (s : St Ideal)
    (hQ : ∀ s' : St Ideal, (∀ y l, s'.o (ix3 0 y l) = result X y l) → iprop(Res dv R X s' ∗ W) ⊢ Q ⟨⟩) :
    Good dv R X W Q (body R) s := by
  have e3 : ∀ {φ : EltTy} (x : Vec Ideal S1x1x512 φ), View.ld x (Rect.unit (s := S1x1x512) ![0, 0, 0] S1x1x512.size inb_S1x1x512_S1x1x512_0_0_0) = x :=
    fun x => View.ld_unit_zero (by decide) _ x
  unfold body prep
  refine load6 (load10 (store10 (load11 (store11 (load2 (load3 ?_))))))
  rw [e3, e3]
  refine good_blocks 16 0 (by decide) _ (fun d r => ?_) (fun a L => ?_) fun s' ho => hQ s' fun y l => ?_
  · refine (ov2 _ s.vt _ d r).trans ((dif_pos ⟨⟨Nat.zero_le _, by omega⟩, Nat.zero_le _, by omega⟩).trans ?_)
    refine (vtV_apply _ d r).trans ?_
    exact ld3 _ X.x6 r d _ _ (Nat.zero_add _).symm (Nat.zero_add _).symm
  · refine (ov2 _ s.cap _ a L).trans ((dif_pos ⟨⟨Nat.zero_le _, by omega⟩, Nat.zero_le _, by omega⟩).trans ?_)
    exact capV_apply a L
  · rw [ho, if_pos ⟨by omega, by omega⟩]

end Cert.KernelIdeal.Own
-- ==== Proof.Unroll.lean ====
module

public import proofs.«01_k».proof.Proof.Model

@[expose] public section

set_option maxRecDepth 65536

noncomputable section

namespace Cert.KernelIdeal.Own

open Cert.KernelIdeal Cert.KernelIdeal.Gen Idealize.ShloMosaic Idealize.ShloMosaic.TcCoe Idealize.SL.Sem

variable {F : FTy → Type} [FloatOps F] [Named F]

/-- Two programs that begin with the same effect and agree afterwards are equal. -/
theorem op_step {E : Type → Type} {α β : Type} {e e' : E β} {k k' : β → Prog E α} (he : e = e') (hk : ∀ v, k v = k' v) :
    Prog.op e k = Prog.op e' k' := by subst he; exact congrArg _ (funext hk)

set_option maxHeartbeats 40000000 in
/-- The printed body is the looped program: effect by effect, all 1943 of them. -/
theorem unroll (i : grid0.Coords) (R : Refs) : cc0__attention_kernel (F := F) i R.a2 R.h2 R.a3 R.h3 R.a4 R.h4 R.a5 R.h5
    R.a6 R.h6 R.a7 R.h7 R.a8 R.h8 R.a9 R.h9 R.a10 R.h10 R.a11 R.h11 = body R := by
  unfold cc0__attention_kernel
  iterate 1943 refine op_step rfl fun _ => ?_
  rfl

end Cert.KernelIdeal.Own
-- ==== Proof.Run.lean ====
module

public import proofs.«01_k».proof.Proof.Block
public import proofs.«01_k».proof.Proof.Unroll
public import proofs.«01_k».proof.Proof.Gen.KernelIdeal.Value

/-! The kernel's run with its result named: the pipeline's proof data with the output buffer holding the row-wise
result after every grid point, the body's obligation by the row-wise reading of the body, and the run. -/

@[expose] public section

set_option maxRecDepth 16384

noncomputable section

namespace Cert.KernelIdeal.Own

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The buffers the body is called with at grid point `t`. -/
def refsAt (t : Fin cfg0.N) : Refs :=
  ⟨ms0_0 t, ms0_1 t, ms0_2 t, ms0_3 t, ms0_4 t, ms0_5 t, scM0_0, scM0_1, scM0_2, scM0_3,
    hs0_0 t, hs0_1 t, hs0_2 t, hs0_3 t, hs0_4 t, hs0_5 t,
    Memref.isWhole_whole _, Memref.isWhole_whole _, Memref.isWhole_whole _, Memref.isWhole_whole _⟩

/-- The input blocks of grid point `t`. -/
def inpAt (c : Dev nD) (t : Fin cfg0.N) : Inp Ideal :=
  ⟨iblk m c 0 t, iblk m c 1 t, iblk m c 2 t, iblk m c 3 t, iblk m c 4 t⟩

/-- The block of the result that input blocks `X` give. -/
def outBlock (X : Inp Ideal) : Vec Ideal S1x2048x512 .bf16 := fun j => result X (j 1) (j 2)

/-- A block whose entries are the row-wise result is the block of the result. -/
theorem eq_outBlock {X : Inp Ideal} {o : Vec Ideal S1x2048x512 .bf16} (h : ∀ y l, o (ix3 0 y l) = result X y l) :
    o = outBlock X := by
  funext j
  idx_vars j
  obtain rfl : j0 = 0 := Subsingleton.elim _ _
  exact h _ _

/-- The proof data of the pipeline: each input's buffer holds its block, the output's the block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (inpAt m c t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The body leaves window 0 at its block. -/
theorem after0_0 (c : Dev nD) (t : Fin cfg0.N) : (dats m 0 c).after 0 t = iblk m c 0 t := by dsimp only [dats]
/-- The body leaves window 1 at its block. -/
theorem after0_1 (c : Dev nD) (t : Fin cfg0.N) : (dats m 0 c).after 1 t = iblk m c 1 t := by dsimp only [dats]
/-- The body leaves window 2 at its block. -/
theorem after0_2 (c : Dev nD) (t : Fin cfg0.N) : (dats m 0 c).after 2 t = iblk m c 2 t := by dsimp only [dats]
/-- The body leaves window 3 at its block. -/
theorem after0_3 (c : Dev nD) (t : Fin cfg0.N) : (dats m 0 c).after 3 t = iblk m c 3 t := by dsimp only [dats]
/-- The body leaves window 4 at its block. -/
theorem after0_4 (c : Dev nD) (t : Fin cfg0.N) : (dats m 0 c).after 4 t = iblk m c 4 t := by dsimp only [dats]
/-- The body leaves the output window at the block of the result. -/
theorem after0_5 (c : Dev nD) (t : Fin cfg0.N) : (dats m 0 c).after 5 t = outBlock (inpAt m c t) := by dsimp only [dats]

/-- Window 0 holds its block before the body. -/
theorem before0_0 (c : Dev nD) (t : Fin cfg0.N) (d) : (dats m 0 c).before 0 t d = iblk m c 0 t :=
  before0_0_of m (dats m 0 c) (A_eq m c 0) (after0_0 m c) t d
/-- Window 1 holds its block before the body. -/
theorem before0_1 (c : Dev nD) (t : Fin cfg0.N) (d) : (dats m 0 c).before 1 t d = iblk m c 1 t :=
  before0_1_of m (dats m 0 c) (A_eq m c 1) (after0_1 m c) t d
/-- Window 2 holds its block before the body. -/
theorem before0_2 (c : Dev nD) (t : Fin cfg0.N) (d) : (dats m 0 c).before 2 t d = iblk m c 2 t :=
  before0_2_of m (dats m 0 c) (A_eq m c 2) (after0_2 m c) t d
/-- Window 3 holds its block before the body. -/
theorem before0_3 (c : Dev nD) (t : Fin cfg0.N) (d) : (dats m 0 c).before 3 t d = iblk m c 3 t :=
  before0_3_of m (dats m 0 c) (A_eq m c 3) (after0_3 m c) t d
/-- Window 4 holds its block before the body. -/
theorem before0_4 (c : Dev nD) (t : Fin cfg0.N) (d) : (dats m 0 c).before 4 t d = iblk m c 4 t :=
  before0_4_of m (dats m 0 c) (A_eq m c 4) (after0_4 m c) t d

/-- What the body is called with at grid point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at grid point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The printed body at a grid point is the looped body on the point's buffers. -/
theorem bodyAt0_eq (t : Fin cfg0.N) : bodyAt0 (F := Ideal) t = body (refsAt t) :=
  unroll (F := Ideal) (grid0.coords t) (refsAt t)

/-- The body at a grid point, run: the inputs kept, the output's buffer at the block of the result. -/
theorem sound_body (c : Dev nD) (t : Fin cfg0.N) :
    bodyPre m c t ⊢ wp frame (wpE (defs₀ (F := Ideal)) Variants.none c none) Set.univ (bodyAt0 t) (fun _ => bodyPost m c t) := by
  rw [bodyAt0_eq]
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hb := fun s : St Ideal => good_body (dv := c) (R := refsAt t) (X := inpAt m c t)
    (W := iprop((∃ r, prngReg c r) ∗ (dats m 0 c).owesAt () t.castSucc))
    (Q := fun _ => iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))
      ∗ (dats m 0 c).owesAt () t.castSucc
      ∗ owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare (outBlock (inpAt m c t))))
    s (fun s' ho => by
      unfold Res refsAt inpAt
      rw [eq_outBlock ho]
      iintro ⟨⟨H0, H1, H2, H3, H4, H5, HS0, HS1, HS2, HS3⟩, Hg, Ho⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexact H0
      isplitl [H1]; · iexact H1
      isplitl [H2]; · iexact H2
      isplitl [H3]; · iexact H3
      isplitl [H4]; · iexact H4
      iexact H5)
  unfold Good at hb
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩⟩
  iapply (hb ⟨(dats m 0 c).before 5 t d5, e0, e1, e2, e3⟩)
  unfold Res
  isplitr [Hg Ho]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iexact HS3
  isplitl [Hg]; · iexact Hg
  iexact Ho

/-- The body's obligation at every grid point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run with the final counters: the pipeline's arrays at what the proof data computes, every other buffer kept. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every execution ends, the pipeline's arrays at what the proof data computes, every other buffer kept. -/
theorem run_main : θ_run defs (onTc (τ := τ) (main (F := Ideal))) (s₀ m ρ) (Pipeline.FramePost cfgs (dats m) 0 (V m)) :=
  (θ_run defs _ _).mono (fun _ h => h.1) (run_quiescent m ρ)

end Cert.KernelIdeal.Own
-- ==== Proof.KernelValue.lean ====
module

public import proofs.«01_k».proof.Proof.Run
public import Idealize.ShloMosaic.Lib.Pointwise
public import Idealize.ShloMosaic.Lib.Pipeline.ValueKit
public import Idealize.ShloMosaic.Lib.StableHlo.ReadAt

/-! The kernel's whole result in terms of its arguments. -/

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat Cfg Window)

/-- The input blocks of batch entry `b` and key head `g`, cut out of the arguments. -/
def argInp (a0 : Vec Ideal S8x2048x8192 .fp8e4m3) (a1 : Vec Ideal S64 .f32) (a2 : Vec Ideal S8x2048x2048 .fp8e4m3)
    (a3 : Vec Ideal S16 .f32) (a4 : Vec Ideal S8x2048x2048 .fp8e4m3) (a5 : Vec Ideal S16 .f32) (b : Fin 8) (g : Fin 16) : Inp Ideal where
  x2 j := a1 (ix1 ⟨g.val * 4 + (j 2).val / 128, by have : (j 2).val < 512 := (j 2).isLt; omega⟩) * a3 (ix1 g)
    * Ideal.ofBits .f32 0x3DB504F3#32 * Ideal.ofBits .f32 0x3CA3D70A#32
  x3 _ := a5 (ix1 g)
  x4 j := a0 (ix3 b (j 1) ⟨g.val * 512 + (j 2).val, by have : (j 2).val < 512 := (j 2).isLt; omega⟩)
  x5 j := a2 (ix3 b (j 1) ⟨g.val * 128 + (j 2).val, by have : (j 2).val < 128 := (j 2).isLt; omega⟩)
  x6 j := a4 (ix3 b (j 1) ⟨g.val * 128 + (j 2).val, by have : (j 2).val < 128 := (j 2).isLt; omega⟩)

/-- The kernel's whole result: each entry by its batch entry, its row, its key head and its column of that head's group. -/
def kernelOut (a0 : Vec Ideal S8x2048x8192 .fp8e4m3) (a1 : Vec Ideal S64 .f32) (a2 : Vec Ideal S8x2048x2048 .fp8e4m3)
    (a3 : Vec Ideal S16 .f32) (a4 : Vec Ideal S8x2048x2048 .fp8e4m3) (a5 : Vec Ideal S16 .f32) : Vec Ideal S8x2048x8192 .bf16 :=
  fun i => result (argInp a0 a1 a2 a3 a4 a5 (i 0) ⟨(i 2).val / 512, by have : (i 2).val < 8192 := (i 2).isLt; omega⟩) (i 1)
    ⟨(i 2).val % 512, Nat.mod_lt _ (by decide)⟩

variable (m : (ℓ : Loc nD τ sig) → Buf (Elt Ideal) ℓ) (ρ : Dev nD → PrngReg)

/-- The block each window stages at each grid point. -/
theorem index_eq : ∀ t : Fin cfg0.N, win0_0.index t = ![(grid0.coords t 1).val, 0, 0] ∧ win0_1.index t = ![(grid0.coords t 1).val, 0, 0]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val] :=
  (by decide +kernel : ∀ t : Fin grid0.N, _)

/-- The scores' scale, lane by lane, as the host operations leave it. -/
theorem scale_apply (c : Dev nD) (b : Fin 8) (g : Fin 16) (l : Fin 512) : V m c main_v10 (ix3 g 0 l)
    = (argInp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b g).x2 (ix3 0 0 l) := by
  unfold V argInp
  after_reads_at

/-- The values' scale, lane by lane, as the host operations leave it. -/
theorem vscale_apply (c : Dev nD) (g : Fin 16) (l : Fin 512) : V m c main_v12 (ix3 g 0 l)
    = m ((c : Thread nD τ).loc main_arg5) (ix1 g) := by
  unfold V
  after_reads_at

/-- The input blocks of a grid point are those of its batch entry and key head. -/
theorem inpAt_eq (c : Dev nD) (t : Fin cfg0.N) : inpAt m c t
    = argInp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (grid0.coords t 0) (grid0.coords t 1) := by
  unfold inpAt argInp
  congr 1 <;> funext j <;> idx_vars j <;> obtain rfl : j0 = 0 := Subsingleton.elim _ _
  · obtain rfl : j1 = 0 := Subsingleton.elim _ _
    refine Eq.trans ?_ (scale_apply m c (grid0.coords t 0) (grid0.coords t 1) j2)
    blk_ext [iblk, index_eq t]
  · obtain rfl : j1 = 0 := Subsingleton.elim _ _
    refine Eq.trans ?_ (vscale_apply m c (grid0.coords t 1) j2)
    blk_ext [iblk, index_eq t]
  · rw [← V_main_arg0 m c]
    blk_ext [iblk, index_eq t]
  · rw [← V_main_arg2 m c]
    blk_ext [iblk, index_eq t]
  · rw [← V_main_arg4 m c]
    blk_ext [iblk, index_eq t]

/-- The result array after the run. -/
theorem final (c : Dev nD) : (dats m 0 c).arrAt 5 (cfgs 0).N
    = kernelOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5, inpAt_eq]
  have e0 : (win0_5.blk t).view.emb y 0 = grid0.coords t 0 := Fin.ext (by blk_simp [index_eq t])
  have e1 : (win0_5.blk t).view.emb y 1 = y 1 := Fin.ext (by blk_simp [index_eq t])
  have e2 : ((win0_5.blk t).view.emb y 2).val = (grid0.coords t 1).val * 512 + (y 2).val := by blk_simp [index_eq t]
  have e3 : (⟨((win0_5.blk t).view.emb y 2).val / 512, by have : ((win0_5.blk t).view.emb y 2).val < 8192 := ((win0_5.blk t).view.emb y 2).isLt; omega⟩ : Fin 16)
      = grid0.coords t 1 := Fin.ext (by
    show ((win0_5.blk t).view.emb y 2).val / 512 = _
    have : (y 2).val < 512 := (y 2).isLt
    rw [e2]; omega)
  have e4 : (⟨((win0_5.blk t).view.emb y 2).val % 512, Nat.mod_lt _ (by decide)⟩ : Fin 512) = y 2 := Fin.ext (by
    show ((win0_5.blk t).view.emb y 2).val % 512 = _
    have : (y 2).val < 512 := (y 2).isLt
    rw [e2]; omega)
  unfold kernelOut outBlock
  simp only [e0, e1, e3, e4]

/-- The run of the kernel: its result is `kernelOut` of the arguments, which keep their contents. -/
theorem run : θ_run defs (onTc (τ := τ) (main (F := Ideal))) ⟨m, fun _ => 0, ρ⟩ fun r => ∀ c : Dev nD,
      r.2.mem ((c : Thread nD τ).loc main_v13) = kernelOut (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  run_from run_main m ρ
  exact final m c

end Cert.KernelIdeal.Own
-- ==== Proof.Math.lean ====
module

public import proofs.«01_k».proof.Proof.Block

/-! The softmax weights of one row: the kernel's, computed as powers of two against the largest tangent and carrying the
codes' factor 256, against the reference's, computed as exponentials against the largest capped score. -/

@[expose] public section

noncomputable section

namespace Cert.KernelIdeal.Own

open Idealize.ShloMosaic
open scoped BigOperators

/-- The hyperbolic tangent is always a real number. -/
theorem tanh_real (x : EReal) : ∃ r : ℝ, Ideal.tanh x = (r : EReal) := by
  induction x with
  | bot => exact ⟨-1, by rw [EReal.coe_neg, EReal.coe_one]; rfl⟩
  | top => exact ⟨1, by rw [EReal.coe_one]; rfl⟩
  | coe x => exact ⟨Real.tanh x, rfl⟩

/-- A sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The kernel's power of two is the exponential of fifty times the difference of the tangents, 256-fold. -/
theorem exp2_eq (x a : ℝ) : Ideal.exp2 ((x : EReal) * eScale + (((8 : ℝ) : EReal) - eScale * (a : EReal)))
    = ((Real.exp (50 * x - 50 * a) * 256 : ℝ) : EReal) := by
  unfold eScale
  rw [← EReal.coe_mul, ← EReal.coe_mul, ← EReal.coe_sub, ← EReal.coe_add]
  show ((Real.rpow 2 _ : ℝ) : EReal) = _
  congr 1
  have h2 : Real.log 2 ≠ 0 := (Real.log_pos (by norm_num)).ne'
  have e : x * (50 * (Real.log 2)⁻¹) + (8 - 50 * (Real.log 2)⁻¹ * a) = (50 * x - 50 * a) * (Real.log 2)⁻¹ + 8 := by ring
  rw [e]
  show (2 : ℝ) ^ ((50 * x - 50 * a) * (Real.log 2)⁻¹ + 8) = _
  rw [Real.rpow_add (by norm_num), Real.rpow_def_of_pos (by norm_num : (0 : ℝ) < 2)]
  congr 1
  · congr 1; field_simp
  · rw [show (8 : ℝ) = ((8 : ℕ) : ℝ) by norm_num, Real.rpow_natCast]; norm_num

/-- The weights of a row whose tangents are `T`, cut off after row `y`: there are real numbers `q`, not all zero and none
    negative, such that the reference's weights are `q` and the kernel's are 256 times `q`. -/
theorem weights_real (T : Fin 2048 → EReal) (hT : ∀ r, ∃ x : ℝ, T r = (x : EReal)) (y : Fin 2048) :
    ∃ q : Fin 2048 → ℝ, 0 < ∑ r, q r ∧
      (∀ r, Ideal.exp2 ((if r.val ≤ y.val then T r else ⊥) * eScale
          + (((8 : ℝ) : EReal) - eScale * Finset.univ.sup fun r : Fin 2048 => if r.val ≤ y.val then T r else ⊥))
        = ((q r : ℝ) : EReal) * ((256 : ℝ) : EReal)) ∧
      (∀ r, Ideal.exp ((if r.val ≤ y.val then ((50 : ℝ) : EReal) * T r else ⊥)
          - Finset.univ.sup fun r : Fin 2048 => if r.val ≤ y.val then ((50 : ℝ) : EReal) * T r else ⊥)
        = ((q r : ℝ) : EReal)) := by
  choose t ht using hT
  obtain rfl : T = fun r => (t r : EReal) := funext ht
  obtain ⟨i, -, hi⟩ := Finset.exists_mem_eq_sup (Finset.univ : Finset (Fin 2048)) ⟨0, Finset.mem_univ _⟩
    (fun r : Fin 2048 => if r.val ≤ y.val then (t r : EReal) else ⊥)
  have hle : ∀ r : Fin 2048, (if r.val ≤ y.val then (t r : EReal) else ⊥) ≤ if i.val ≤ y.val then (t i : EReal) else ⊥ := fun r => by
    have := Finset.le_sup (f := fun r : Fin 2048 => if r.val ≤ y.val then (t r : EReal) else ⊥) (Finset.mem_univ r)
    rwa [hi] at this
  have hiy : i.val ≤ y.val := by
    by_contra hc
    have := hle y
    rw [if_pos le_rfl, if_neg hc] at this
    exact absurd this (not_le.mpr (EReal.bot_lt_coe _))
  have htle : ∀ r : Fin 2048, r.val ≤ y.val → t r ≤ t i := fun r hr => by
    have := hle r
    rw [if_pos hr, if_pos hiy] at this
    exact EReal.coe_le_coe_iff.mp this
  have hs : (Finset.univ.sup fun r : Fin 2048 => if r.val ≤ y.val then ((50 : ℝ) : EReal) * (t r : EReal) else ⊥)
      = ((50 * t i : ℝ) : EReal) := by
    apply le_antisymm
    · refine Finset.sup_le fun r _ => ?_
      by_cases hr : r.val ≤ y.val
      · rw [if_pos hr, ← EReal.coe_mul]
        exact EReal.coe_le_coe_iff.mpr (by have := htle r hr; linarith)
      · rw [if_neg hr]; exact bot_le
    · have := Finset.le_sup (f := fun r : Fin 2048 => if r.val ≤ y.val then ((50 : ℝ) : EReal) * (t r : EReal) else ⊥) (Finset.mem_univ i)
      rwa [if_pos hiy, ← EReal.coe_mul] at this
  rw [hi, if_pos hiy, hs]
  refine ⟨fun r => if r.val ≤ y.val then Real.exp (50 * t r - 50 * t i) else 0, ?_, fun r => ?_, fun r => ?_⟩
  · refine Finset.sum_pos' (fun r _ => ?_) ⟨i, Finset.mem_univ _, ?_⟩
    · show (0 : ℝ) ≤ if r.val ≤ y.val then Real.exp (50 * t r - 50 * t i) else 0
      split_ifs
      · exact (Real.exp_pos _).le
      · exact le_rfl
    · show (0 : ℝ) < if i.val ≤ y.val then Real.exp (50 * t i - 50 * t i) else 0
      rw [if_pos hiy]; exact Real.exp_pos _
  · by_cases hr : r.val ≤ y.val
    · simp only [if_pos hr]
      rw [exp2_eq, EReal.coe_mul]
    · simp only [if_neg hr]
      rw [exp2_masked, EReal.coe_zero, zero_mul]
  · by_cases hr : r.val ≤ y.val
    · simp only [if_pos hr]
      rw [← EReal.coe_mul, ← EReal.coe_sub]
      rfl
    · simp only [if_neg hr]
      rw [EReal.bot_sub]
      rfl

/-- The row's result from weights `q`: the kernel scales the value sum by a quotient that carries the codes' factor in both
    parts, the reference divides the scaled value sum by the weights' sum. -/
theorem normalize (q : Fin 2048 → ℝ) (hq : 0 < ∑ r, q r) (S c : EReal) :
    S * Ideal.div c ((∑ r, ((q r : ℝ) : EReal) * ((256 : ℝ) : EReal)) * (((256 : ℝ)⁻¹ : ℝ) : EReal))
      = Ideal.div (S * c) (∑ r, ((q r : ℝ) : EReal)) := by
  have e : (∑ r, ((q r : ℝ) : EReal) * ((256 : ℝ) : EReal)) * (((256 : ℝ)⁻¹ : ℝ) : EReal) = ((∑ r, q r : ℝ) : EReal) := by
    simp only [← EReal.coe_mul]
    rw [coe_sum, ← EReal.coe_mul, ← Finset.sum_mul, mul_assoc, mul_inv_cancel₀ (by norm_num), mul_one]
  have h0 : ((∑ r, q r : ℝ) : EReal) ≠ 0 := fun h => hq.ne' (by rw [← EReal.coe_zero] at h; exact EReal.coe_eq_coe_iff.mp h)
  rw [e, coe_sum]
  unfold Ideal.div
  rw [if_neg h0, if_neg h0, mul_assoc]

end Cert.KernelIdeal.Own
-- ==== Proof.Ref.lean ====
module

public import proofs.«01_k».proof.Proof.Gen.ReferenceIdeal.Value
public import Idealize.ShloMosaic.Lib.Pointwise
public import Idealize.ShloMosaic.Lib.Tactic.WordOmega

/-! The reference's result at an index. -/

@[expose] public section

set_option maxRecDepth 16384

noncomputable section

namespace Cert.ReferenceIdeal.Own

open Cert.ReferenceIdeal Cert.ReferenceIdeal.Gen Idealize.ShloMosaic Idealize.ShloMosaic.TcCoe
open scoped BigOperators

variable (a0 : Vec Ideal S8x2048x8192 .fp8e4m3) (a1 : Vec Ideal S64 .f32) (a2 : Vec Ideal S8x2048x2048 .fp8e4m3)
  (a3 : Vec Ideal S16 .f32) (a4 : Vec Ideal S8x2048x2048 .fp8e4m3) (a5 : Vec Ideal S16 .f32)

/-- The soft cap's tangent of the score of query row `y` and key row `r` in head `h` of key head `g`'s group. -/
def tangent (b : Fin 8) (g : Fin 16) (h : Fin 4) (y r : Fin 2048) : EReal :=
  Ideal.tanh ((∑ d : Fin 128, a2 (ix3 b r ⟨g.val * 128 + d.val, by omega⟩) * a0 (ix3 b y ⟨g.val * 512 + h.val * 128 + d.val, by omega⟩))
    * (a1 (ix1 ⟨g.val * 4 + h.val, by omega⟩) * a3 (ix1 g) * Ideal.ofBits .f32 0x3DB504F3#32) * Ideal.ofBits .f32 0x3CA3D70A#32)

/-- The capped and masked score. -/
def masked (b : Fin 8) (g : Fin 16) (h : Fin 4) (y r : Fin 2048) : EReal :=
  if r.val ≤ y.val then ((50 : ℝ) : EReal) * tangent a0 a1 a2 a3 b g h y r else ⊥

/-- The softmax weight before normalisation. -/
def weight (b : Fin 8) (g : Fin 16) (h : Fin 4) (y r : Fin 2048) : EReal :=
  Ideal.exp (masked a0 a1 a2 a3 b g h y r - Finset.univ.sup (masked a0 a1 a2 a3 b g h y))

/-- The word of 50. -/
theorem ofBits_fifty : Ideal.ofBits .f32 0x42480000#32 = ((50 : ℝ) : EReal) := by
  simp [Ideal.ofBits, Ideal.ieee, -EReal.coe_mul]; norm_num

/-- The word of minus infinity. -/
theorem ofBits_negInf : Ideal.ofBits .f32 0xFF800000#32 = (⊥ : EReal) := by
  simp [Ideal.ofBits, Ideal.ieee, -EReal.coe_mul]

/-- The comparison of two row numbers as words decides their order. -/
theorem select_le {α : Type} (r y : Fin 2048) (u v : α) :
    Scalar.select (IntOp.cmpi CmpIPredicate.sle (BitVec.ofNat 32 r.val) (BitVec.ofNat 32 y.val)) u v = if r.val ≤ y.val then u else v := by
  word_omega

/-- The reference's weights at an index. -/
theorem pay3_apply (b : Fin 8) (g : Fin 16) (h : Fin 4) (y r : Fin 2048) :
    k0_pay3 a0 a1 a2 a3 (ix5 b g h y r) = weight a0 a1 a2 a3 b g h y r := by
  pointwise [k0_pay3]
  simp only [select_le, ofBits_fifty, ofBits_negInf]
  rfl

/-- The sums of the reference's weights at an index. -/
theorem pay4_apply (b : Fin 8) (g : Fin 16) (h : Fin 4) (y : Fin 2048) :
    k0_pay4 a0 a1 a2 a3 (ix4 b g h y) = ∑ r, weight a0 a1 a2 a3 b g h y r := by
  pointwise [k0_pay4]
  simp only [pay3_apply]

/-- The reference's weights before the clip, 256-fold, at an index. -/
theorem pay5_apply (b : Fin 8) (g : Fin 16) (h : Fin 4) (y r : Fin 2048) :
    k0_pay5 a0 a1 a2 a3 (ix5 b g h y r) = weight a0 a1 a2 a3 b g h y r * Ideal.ofBits .f32 0x43800000#32 := by
  pointwise [k0_pay5]
  simp only [pay3_apply]

/-- The reference's result at batch entry `b`, row `y` and column `l`. -/
theorem out_apply (b : Fin 8) (y : Fin 2048) (l : Fin 8192) :
    Value.G6 a0 a1 a2 a3 a4 a5 (ix3 b y l)
      = Ideal.div ((∑ r, a4 (ix3 b r ⟨l.val / 512 * 128 + l.val % 128, by omega⟩)
            * min (Ideal.ofBits .f32 0x43E00000#32) (max (Ideal.ofBits .f32 0xC3E00000#32)
              (weight a0 a1 a2 a3 b ⟨l.val / 512, by omega⟩ ⟨l.val / 128 % 4, by omega⟩ y r * Ideal.ofBits .f32 0x43800000#32)))
          * (a5 (ix1 ⟨l.val / 512, by omega⟩) * Ideal.ofBits .f32 0x3B800000#32))
        (∑ r, weight a0 a1 a2 a3 b ⟨l.val / 512, by omega⟩ ⟨l.val / 128 % 4, by omega⟩ y r) := by
  unfold Value.G6
  pointwise [k0_pay1, k0_pay2]
  simp only [pay4_apply, pay5_apply]

end Cert.ReferenceIdeal.Own
-- ==== Proof.Algebraic.lean ====
module

public import proofs.«01_k».proof.Proof.KernelValue
public import proofs.«01_k».proof.Proof.Math
public import proofs.«01_k».proof.Proof.Ref
public import proofs.«01_k».proof.Defs

/-! The value claim: the kernel's result and the reference's are the same array, entry by entry, for all arguments. -/

@[expose] public section

set_option maxRecDepth 16384

noncomputable section

namespace Cert.Own

open Idealize.ShloMosaic Idealize.ShloMosaic.TcCoe
open Cert.KernelIdeal (S8x2048x8192 S64 S8x2048x2048 S16)
open Cert.KernelIdeal.Own (argInp kernelOut capped clip eScale)
open scoped BigOperators

variable (a0 : Vec Ideal S8x2048x8192 .fp8e4m3) (a1 : Vec Ideal S64 .f32) (a2 : Vec Ideal S8x2048x2048 .fp8e4m3)
  (a3 : Vec Ideal S16 .f32) (a4 : Vec Ideal S8x2048x2048 .fp8e4m3) (a5 : Vec Ideal S16 .f32)

/-- The kernel's capped score of a visible key row is the reference's tangent. -/
theorem capped_eq (b : Fin 8) (g : Fin 16) (h : Fin 4) (y : Fin 2048) (l : Fin 512) (hl : l.val / 128 = h.val) (r : Fin 2048) :
    capped (argInp a0 a1 a2 a3 a4 a5 b g) y l r
      = if r.val ≤ y.val then Cert.ReferenceIdeal.Own.tangent a0 a1 a2 a3 b g h y r else ⊥ := by
  have hs : Cert.KernelIdeal.Own.score (argInp a0 a1 a2 a3 a4 a5 b g) y l r
      = ∑ d : Fin 128, a2 (ix3 b r ⟨g.val * 128 + d.val, by omega⟩) * a0 (ix3 b y ⟨g.val * 512 + h.val * 128 + d.val, by omega⟩) := by
    unfold Cert.KernelIdeal.Own.score
    refine Finset.sum_congr rfl fun d _ => ?_
    show a2 (ix3 b r ⟨g.val * 128 + d.val, _⟩) * a0 (ix3 b y ⟨g.val * 512 + (128 * (l.val / 128) + d.val), _⟩) = _
    have e : g.val * 512 + (128 * (l.val / 128) + d.val) = g.val * 512 + h.val * 128 + d.val := by omega
    simp only [e]
  have hx : (argInp a0 a1 a2 a3 a4 a5 b g).x2 (ix3 0 0 (Cert.KernelIdeal.Own.lane y l))
      = a1 (ix1 ⟨g.val * 4 + h.val, by omega⟩) * a3 (ix1 g) * Ideal.ofBits .f32 0x3DB504F3#32 * Ideal.ofBits .f32 0x3CA3D70A#32 := by
    show a1 (ix1 ⟨g.val * 4 + (128 * (l.val / 128) + y.val % 128) / 128, _⟩) * _ * _ * _ = _
    have e : (128 * (l.val / 128) + y.val % 128) / 128 = h.val := by omega
    simp only [e]
  unfold capped Cert.ReferenceIdeal.Own.tangent
  rw [hs, hx, ← mul_assoc]

/-- The kernel's result is the reference's. -/
theorem value_eq : kernelOut a0 a1 a2 a3 a4 a5 = Cert.ReferenceIdeal.Value.G6 a0 a1 a2 a3 a4 a5 := by
  funext i
  idx_vars i
  rw [Cert.ReferenceIdeal.Own.out_apply]
  obtain ⟨g, hg⟩ : ∃ g : Fin 16, g.val = i2.val / 512 := ⟨⟨i2.val / 512, by omega⟩, rfl⟩
  obtain ⟨h, hh⟩ : ∃ h : Fin 4, h.val = i2.val / 128 % 4 := ⟨⟨i2.val / 128 % 4, by omega⟩, rfl⟩
  have eg : (⟨i2.val / 512, by omega⟩ : Fin 16) = g := Fin.ext hg.symm
  have eh : (⟨i2.val / 128 % 4, by omega⟩ : Fin 4) = h := Fin.ext hh.symm
  show Cert.KernelIdeal.Own.result (argInp a0 a1 a2 a3 a4 a5 i0 ⟨i2.val / 512, _⟩) i1 ⟨i2.val % 512, _⟩ = _
  rw [eg, eh]
  obtain ⟨q, hq, hw, hp⟩ := Cert.KernelIdeal.Own.weights_real (Cert.ReferenceIdeal.Own.tangent a0 a1 a2 a3 i0 g h i1)
    (fun r => Cert.KernelIdeal.Own.tanh_real _) i1
  have hc : capped (argInp a0 a1 a2 a3 a4 a5 i0 g) i1 ⟨i2.val % 512, Nat.mod_lt _ (by decide)⟩
      = fun r => if r.val ≤ i1.val then Cert.ReferenceIdeal.Own.tangent a0 a1 a2 a3 i0 g h i1 r else ⊥ :=
    funext fun r => capped_eq a0 a1 a2 a3 a4 a5 i0 g h i1 _ (by show i2.val % 512 / 128 = h.val; omega) r
  have hk : ∀ r, Cert.KernelIdeal.Own.weight (argInp a0 a1 a2 a3 a4 a5 i0 g) i1 ⟨i2.val % 512, Nat.mod_lt _ (by decide)⟩ r
      = ((q r : ℝ) : EReal) * ((256 : ℝ) : EReal) := fun r => by
    unfold Cert.KernelIdeal.Own.weight Cert.KernelIdeal.Own.top
    rw [hc]
    exact hw r
  have hr : ∀ r, Cert.ReferenceIdeal.Own.weight a0 a1 a2 a3 i0 g h i1 r = ((q r : ℝ) : EReal) := hp
  unfold Cert.KernelIdeal.Own.result
  simp only [hk, hr]
  rw [Cert.KernelIdeal.Own.ofBits_448, Cert.KernelIdeal.Own.ofBits_neg448, Cert.KernelIdeal.Own.ofBits_256, Cert.KernelIdeal.Own.ofBits_inv256,
    Cert.KernelIdeal.Own.normalize q hq]
  congr 2
  refine Finset.sum_congr rfl fun r _ => ?_
  show a4 (ix3 i0 r ⟨g.val * 128 + i2.val % 512 % 128, _⟩) * _ = _
  have e : g.val * 128 + i2.val % 512 % 128 = i2.val / 512 * 128 + i2.val % 128 := by omega
  simp only [e]
  rfl

/-- From memories that agree on the arguments, the kernel and the reference leave the same result. -/
theorem algebraic [hK : Cert.KernelIdeal.Facts] [hR : Cert.ReferenceIdeal.Facts] :
    Cert.algebraic_KernelIdeal_ReferenceIdeal := by
  pair_intro
  · run_from Cert.KernelIdeal.Own.run m g
  · run_from Cert.ReferenceIdeal.Value.run m' g'
    exact (value_eq _ _ _ _ _ _).symm

end Cert.Own
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Value
public import proofs.«01_k».proof.Proof.Algebraic

/-! The claims of this certificate, proved. -/

@[expose] public section

open Idealize.ShloMosaic

/-- The printed kernel, its idealization and the idealized reference run to the end with their arguments unchanged; the
    idealization replaces two constants only; and the idealized kernel's result is the idealized reference's. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    ⟨IdealRules.named_const.statement Cert.KernelIdeal.κ "mask" .f32 0xC61C4000#32 ⊥ rfl,
      IdealRules.named_const.statement Cert.KernelIdeal.κ "exp2_scale" .f32 0x429044FE#32 _ rfl⟩,
    Cert.Own.algebraic (hK := Cert.KernelIdeal.Gen.facts) (hR := Cert.ReferenceIdeal.Gen.facts)⟩
